-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S50000x256 : Shape := ⟨2, ![50000, 256]⟩
abbrev S50000x512 : Shape := ⟨2, ![50000, 512]⟩
abbrev S16 : Shape := ⟨1, ![16]⟩
abbrev S512x16 : Shape := ⟨2, ![512, 16]⟩
abbrev S512 : Shape := ⟨1, ![512]⟩
abbrev S128x512 : Shape := ⟨2, ![128, 512]⟩
abbrev S128 : Shape := ⟨1, ![128]⟩
abbrev S512x128 : Shape := ⟨2, ![512, 128]⟩
abbrev S1x16 : Shape := ⟨2, ![1, 16]⟩
abbrev S1x512 : Shape := ⟨2, ![1, 512]⟩
abbrev S1x128 : Shape := ⟨2, ![1, 128]⟩
abbrev S512x256 : Shape := ⟨2, ![512, 256]⟩
abbrev S2000x512 : Shape := ⟨2, ![2000, 512]⟩
abbrev S2000x256 : Shape := ⟨2, ![2000, 256]⟩
abbrev S256x16 : Shape := ⟨2, ![256, 16]⟩
abbrev S16x256 : Shape := ⟨2, ![16, 256]⟩
abbrev S512x512 : Shape := ⟨2, ![512, 512]⟩
abbrev S512x1 : Shape := ⟨2, ![512, 1]⟩

abbrev nBuf : Space → Nat
  | .hbm => 20
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S50000x512, .f32⟩
  | .hbm, ⟨2, _⟩ => ⟨S16, .f32⟩
  | .hbm, ⟨3, _⟩ => ⟨S16, .f32⟩
  | .hbm, ⟨4, _⟩ => ⟨S512x16, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S128x512, .f32⟩
  | .hbm, ⟨9, _⟩ => ⟨S128, .f32⟩
  | .hbm, ⟨10, _⟩ => ⟨S512x128, .f32⟩
  | .hbm, ⟨11, _⟩ => ⟨S1x16, .f32⟩
  | .hbm, ⟨12, _⟩ => ⟨S1x16, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x128, .f32⟩
  | .hbm, ⟨17, _⟩ => ⟨S512x256, .f32⟩
  | .hbm, ⟨18, _⟩ => ⟨S512x16, .f32⟩
  | .hbm, ⟨19, _⟩ => ⟨S512x128, .f32⟩
  | .local _ .vmem, ⟨0, _⟩ => ⟨S2000x512, .f32⟩
  | .local _ .vmem, ⟨1, _⟩ => ⟨S2000x512, .f32⟩
  | .local _ .vmem, ⟨2, _⟩ => ⟨S2000x256, .f32⟩
  | .local _ .vmem, ⟨3, _⟩ => ⟨S2000x256, .f32⟩
  | .local _ .vmem, ⟨4, _⟩ => ⟨S1x16, .f32⟩
  | .local _ .vmem, ⟨5, _⟩ => ⟨S1x16, .f32⟩
  | .local _ .vmem, ⟨6, _⟩ => ⟨S512x16, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S128x512, .f32⟩
  | .local _ .vmem, ⟨11, _⟩ => ⟨S1x128, .f32⟩
  | .local _ .vmem, ⟨12, _⟩ => ⟨S512x128, .f32⟩
  | .local _ .vmem, ⟨13, _⟩ => ⟨S512x256, .f32⟩
  | .local _ .vmem, ⟨14, _⟩ => ⟨S512x16, .f32⟩
  | .local _ .vmem, ⟨15, _⟩ => ⟨S512x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg0 : BitVec 32 := BitVec.ofNat 32 (i 0).val
  let c0_i32_4 : BitVec 32 := 0#32
  let v6 : BitVec 1 := Scalar.cmpi .ne arg0 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg0 : BitVec 32 := BitVec.ofNat 32 (i 0).val
  let c24_i32 : BitVec 32 := 24#32
  let v9 : BitVec 1 := Scalar.cmpi .eq arg0 c24_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S50000x256 : Shape := ⟨2, ![50000, 256]⟩
abbrev S50000x512 : Shape := ⟨2, ![50000, 512]⟩
abbrev S16 : Shape := ⟨1, ![16]⟩
abbrev S512x16 : Shape := ⟨2, ![512, 16]⟩
abbrev S512 : Shape := ⟨1, ![512]⟩
abbrev S128x512 : Shape := ⟨2, ![128, 512]⟩
abbrev S128 : Shape := ⟨1, ![128]⟩
abbrev S512x128 : Shape := ⟨2, ![512, 128]⟩
abbrev S512x50000 : Shape := ⟨2, ![512, 50000]⟩
abbrev S512x256 : Shape := ⟨2, ![512, 256]⟩
abbrev S_ : Shape := ⟨0, ![]⟩
abbrev S16x1 : Shape := ⟨2, ![16, 1]⟩
abbrev S1x512x1x16 : Shape := ⟨4, ![1, 512, 1, 16]⟩
abbrev S1x512x16x16 : Shape := ⟨4, ![1, 512, 16, 16]⟩
abbrev S512x16x16 : Shape := ⟨3, ![512, 16, 16]⟩
abbrev S1x16 : Shape := ⟨2, ![1, 16]⟩
abbrev S16x512 : Shape := ⟨2, ![16, 512]⟩
abbrev S512x512 : Shape := ⟨2, ![512, 512]⟩
abbrev S1x512 : Shape := ⟨2, ![1, 512]⟩
abbrev S1x128 : Shape := ⟨2, ![1, 128]⟩
abbrev S512x1 : Shape := ⟨2, ![512, 1]⟩

abbrev nBuf : Space → Nat
  | .hbm => 166
  | .vmem => 0
  | .smem => 0
  | _ => 0

abbrev hbmTy0_0 (i : Nat) : BufTy := match i % 128 with
  | 0 => ⟨S50000x256, .f32⟩
  | 1 => ⟨S50000x512, .f32⟩
  | 2 => ⟨S16, .f32⟩
  | 3 => ⟨S16, .f32⟩
  | 4 => ⟨S512x16, .f32⟩
  | 5 => ⟨S512, .f32⟩
  | 6 => ⟨S512, .f32⟩
  | 7 => ⟨S512, .f32⟩
  | 8 => ⟨S128x512, .f32⟩
  | 9 => ⟨S128, .f32⟩
  | 10 => ⟨S512x128, .f32⟩
  | 11 => ⟨S512x50000, .f32⟩
  | 12 => ⟨S512x256, .f32⟩
  | 13 => ⟨S16, .i32⟩
  | 14 => ⟨S_, .i32⟩
  | 15 => ⟨S16, .i32⟩
  | 16 => ⟨S16, .i32⟩
  | 17 => ⟨S_, .i32⟩
  | 18 => ⟨S16, .i32⟩
  | 19 => ⟨S16, .i1⟩
  | 20 => ⟨S_, .i32⟩
  | 21 => ⟨S16, .i32⟩
  | 22 => ⟨S16, .i32⟩
  | 23 => ⟨S16, .i32⟩
  | 24 => ⟨S16x1, .i32⟩
  | 25 => ⟨S512x16, .f32⟩
  | 26 => ⟨S512x16, .f32⟩
  | 27 => ⟨S1x512x1x16, .f32⟩
  | 28 => ⟨S1x512x16x16, .f32⟩
  | 29 => ⟨S512x256, .f32⟩
  | 30 => ⟨S512x16x16, .f32⟩
  | 31 => ⟨S512x256, .f32⟩
  | 32 => ⟨S512x256, .f32⟩
  | 33 => ⟨S512x256, .f32⟩
  | 34 => ⟨S512x16x16, .f32⟩
  | 35 => ⟨S_, .f32⟩
  | 36 => ⟨S512x16, .f32⟩
  | 37 => ⟨S_, .f32⟩
  | 38 => ⟨S16, .f32⟩
  | 39 => ⟨S_, .f32⟩
  | 40 => ⟨S16, .f32⟩
  | 41 => ⟨S16, .f32⟩
  | 42 => ⟨S_, .i32⟩
  | 43 => ⟨S_, .f32⟩
  | 44 => ⟨S16, .f32⟩
  | 45 => ⟨S1x16, .f32⟩
  | 46 => ⟨S_, .f32⟩
  | 47 => ⟨S1x16, .f32⟩
  | 48 => ⟨S1x16, .f32⟩
  | 49 => ⟨S512x16, .f32⟩
  | 50 => ⟨S512x16, .f32⟩
  | 51 => ⟨S512x16, .f32⟩
  | 52 => ⟨S_, .f32⟩
  | 53 => ⟨S_, .f32⟩
  | 54 => ⟨S_, .f32⟩
  | 55 => ⟨S_, .f32⟩
  | 56 => ⟨S16, .f32⟩
  | 57 => ⟨S16, .f32⟩
  | 58 => ⟨S16, .f32⟩
  | 59 => ⟨S_, .f32⟩
  | 60 => ⟨S_, .i1⟩
  | 61 => ⟨S_, .f32⟩
  | 62 => ⟨S_, .f32⟩
  | 63 => ⟨S16, .f32⟩
  | 64 => ⟨S16, .f32⟩
  | 65 => ⟨S1x16, .f32⟩
  | 66 => ⟨S512x16, .f32⟩
  | 67 => ⟨S512x16, .f32⟩
  | 68 => ⟨S_, .f32⟩
  | 69 => ⟨S16, .f32⟩
  | 70 => ⟨S16, .f32⟩
  | 71 => ⟨S16, .f32⟩
  | 72 => ⟨S1x16, .f32⟩
  | 73 => ⟨S512x16, .f32⟩
  | 74 => ⟨S512x16, .f32⟩
  | 75 => ⟨S1x16, .f32⟩
  | 76 => ⟨S512x16, .f32⟩
  | 77 => ⟨S512x16, .f32⟩
  | 78 => ⟨S1x16, .f32⟩
  | 79 => ⟨S512x16, .f32⟩
  | 80 => ⟨S512x16, .f32⟩
  | 81 => ⟨S16x512, .f32⟩
  | 82 => ⟨S512x512, .f32⟩
  | 83 => ⟨S1x512, .f32⟩
  | 84 => ⟨S512x512, .f32⟩
  | 85 => ⟨S512x512, .f32⟩
  | 86 => ⟨S_, .f32⟩
  | 87 => ⟨S512x512, .f32⟩
  | 88 => ⟨S512x512, .f32⟩
  | 89 => ⟨S_, .f32⟩
  | 90 => ⟨S512, .f32⟩
  | 91 => ⟨S_, .f32⟩
  | 92 => ⟨S512, .f32⟩
  | 93 => ⟨S512, .f32⟩
  | 94 => ⟨S_, .i32⟩
  | 95 => ⟨S_, .f32⟩
  | 96 => ⟨S512, .f32⟩
  | 97 => ⟨S1x512, .f32⟩
  | 98 => ⟨S_, .f32⟩
  | 99 => ⟨S1x512, .f32⟩
  | 100 => ⟨S1x512, .f32⟩
  | 101 => ⟨S512x512, .f32⟩
  | 102 => ⟨S512x512, .f32⟩
  | 103 => ⟨S512x512, .f32⟩
  | 104 => ⟨S_, .f32⟩
  | 105 => ⟨S_, .f32⟩
  | 106 => ⟨S_, .f32⟩
  | 107 => ⟨S_, .f32⟩
  | 108 => ⟨S512, .f32⟩
  | 109 => ⟨S512, .f32⟩
  | 110 => ⟨S512, .f32⟩
  | 111 => ⟨S_, .f32⟩
  | 112 => ⟨S_, .i1⟩
  | 113 => ⟨S_, .f32⟩
  | 114 => ⟨S_, .f32⟩
  | 115 => ⟨S512, .f32⟩
  | 116 => ⟨S512, .f32⟩
  | 117 => ⟨S1x512, .f32⟩
  | 118 => ⟨S512x512, .f32⟩
  | 119 => ⟨S512x512, .f32⟩
  | 120 => ⟨S_, .f32⟩
  | 121 => ⟨S512, .f32⟩
  | 122 => ⟨S512, .f32⟩
  | 123 => ⟨S512, .f32⟩
  | 124 => ⟨S1x512, .f32⟩
  | 125 => ⟨S512x512, .f32⟩
  | 126 => ⟨S512x512, .f32⟩
  | 127 => ⟨S1x512, .f32⟩
  | _ => ⟨S50000x256, .f32⟩

abbrev hbmTy0_1 (i : Nat) : BufTy := match i % 128 with
  | 0 => ⟨S512x512, .f32⟩
  | 1 => ⟨S512x512, .f32⟩
  | 2 => ⟨S1x512, .f32⟩
  | 3 => ⟨S512x512, .f32⟩
  | 4 => ⟨S512x512, .f32⟩
  | 5 => ⟨S512x128, .f32⟩
  | 6 => ⟨S512x128, .f32⟩
  | 7 => ⟨S1x128, .f32⟩
  | 8 => ⟨S512x128, .f32⟩
  | 9 => ⟨S512x128, .f32⟩
  | 10 => ⟨S512x128, .f32⟩
  | 11 => ⟨S_, .f32⟩
  | 12 => ⟨S512, .f32⟩
  | 13 => ⟨S_, .f32⟩
  | 14 => ⟨S512, .f32⟩
  | 15 => ⟨S512, .f32⟩
  | 16 => ⟨S512x1, .f32⟩
  | 17 => ⟨S512x128, .f32⟩
  | 18 => ⟨S512x128, .f32⟩
  | 19 => ⟨S512x128, .f32⟩
  | 20 => ⟨S_, .f32⟩
  | 21 => ⟨S512, .f32⟩
  | 22 => ⟨S512x1, .f32⟩
  | 23 => ⟨S512x128, .f32⟩
  | 24 => ⟨S512x128, .f32⟩
  | 25 => ⟨S512x128, .i32⟩
  | 26 => ⟨S_, .f32⟩
  | 27 => ⟨S_, .i32⟩
  | 28 => ⟨S512, .f32⟩
  | 29 => ⟨S512, .i32⟩
  | 30 => ⟨S512x1, .i32⟩
  | 31 => ⟨S1x128, .i32⟩
  | 32 => ⟨S512x128, .i32⟩
  | 33 => ⟨S512x128, .i32⟩
  | 34 => ⟨S512x128, .i1⟩
  | 35 => ⟨S512x128, .f32⟩
  | 36 => ⟨S512x128, .f32⟩
  | 37 => ⟨S512x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_cst_3 : Ref sig .tc := ⟨.hbm, 59, rfl⟩
abbrev main_call0_v12 : Ref sig .tc := ⟨.hbm, 60, rfl⟩
abbrev main_call0_cst_4 : Ref sig .tc := ⟨.hbm, 61, rfl⟩
abbrev main_call0_call0_v0 : Ref sig .tc := ⟨.hbm, 62, rfl⟩
abbrev main_call0_call0_v1 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_5 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_call1_cst : Ref sig .tc := ⟨.hbm, 86, rfl⟩
abbrev main_call1_v0 : Ref sig .tc := ⟨.hbm, 87, rfl⟩
abbrev main_v46 : Ref sig .tc := ⟨.hbm, 88, rfl⟩
abbrev main_cst_6 : Ref sig .tc := ⟨.hbm, 89, rfl⟩
abbrev main_v47 : Ref sig .tc := ⟨.hbm, 90, rfl⟩
abbrev main_cst_7 : Ref sig .tc := ⟨.hbm, 91, rfl⟩
abbrev main_v48 : Ref sig .tc := ⟨.hbm, 92, rfl⟩
abbrev main_v49 : Ref sig .tc := ⟨.hbm, 93, rfl⟩
abbrev main_c_8 : Ref sig .tc := ⟨.hbm, 94, rfl⟩
abbrev main_call2_cst : Ref sig .tc := ⟨.hbm, 95, rfl⟩
abbrev main_call2_v0 : Ref sig .tc := ⟨.hbm, 96, rfl⟩
abbrev main_call2_v1 : Ref sig .tc := ⟨.hbm, 97, rfl⟩
abbrev main_call2_cst_0 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_v6 : Ref sig .tc := ⟨.hbm, 103, rfl⟩
abbrev main_call2_v7 : Ref sig .tc := ⟨.hbm, 104, rfl⟩
abbrev main_call2_cst_1 : Ref sig .tc := ⟨.hbm, 105, rfl⟩
abbrev main_call2_v8 : Ref sig .tc := ⟨.hbm, 106, rfl⟩
abbrev main_call2_cst_2 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_cst_3 : Ref sig .tc := ⟨.hbm, 111, rfl⟩
abbrev main_call2_v12 : Ref sig .tc := ⟨.hbm, 112, rfl⟩
abbrev main_call2_cst_4 : Ref sig .tc := ⟨.hbm, 113, rfl⟩
abbrev main_call2_call0_v0 : Ref sig .tc := ⟨.hbm, 114, rfl⟩
abbrev main_call2_call0_v1 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_cst_9 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_cst_10 : Ref sig .tc := ⟨.hbm, 139, rfl⟩
abbrev main_v72 : Ref sig .tc := ⟨.hbm, 140, rfl⟩
abbrev main_cst_11 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_cst_12 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_call3_v0 : Ref sig .tc := ⟨.hbm, 153, rfl⟩
abbrev main_call3_cst : Ref sig .tc := ⟨.hbm, 154, rfl⟩
abbrev main_call3_c : Ref sig .tc := ⟨.hbm, 155, rfl⟩
abbrev main_call3_v1_0 : Ref sig .tc := ⟨.hbm, 156, rfl⟩
abbrev main_v83 : Ref sig .tc := ⟨.hbm, 157, rfl⟩
abbrev main_call4_v0 : Ref sig .tc := ⟨.hbm, 158, rfl⟩
abbrev main_call4_v1 : Ref sig .tc := ⟨.hbm, 159, rfl⟩
abbrev main_call4_v2 : Ref sig .tc := ⟨.hbm, 160, rfl⟩
abbrev main_call4_v3 : Ref sig .tc := ⟨.hbm, 161, rfl⟩
abbrev main_call4_v4 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩

abbrev nD : Nat := 1
abbrev τ : Topo := Topo.v7x

variable {F : FTy → Type} [FloatOps F]
-- ==== Proof.Spec.lean ====
module

public import Idealize.ShloMosaic.PureOps.Ideal.Laws

@[expose] public section

noncomputable section

/-! The mathematics of the problem, over the extended reals: a masked covariance, its normalised row sums, two batch
    normalisations and linear layers, a softmax and its straight-through assignment. -/

namespace Cert.Spec

open Idealize.ShloMosaic

/-- The number of rows a batch normalisation averages over, 512. -/
def count : EReal := Ideal.ofBits .f32 0x44000000#32
/-- The constant added to a variance before its root. -/
def eps : EReal := Ideal.ofBits .f32 0x3727C5AC#32

/-- The 512 in a printed program is this count. -/
theorem ofBits_count : Ideal.ofBits FTy.f32 1140850688#32 = count := rfl
/-- The small constant in a printed program is this one. -/
theorem ofBits_eps : Ideal.ofBits FTy.f32 925353388#32 = eps := rfl
/-- The start of a printed maximum is −∞. -/
theorem ofBits_bot : Ideal.ofBits FTy.f32 4286578688#32 = ⊥ := by simp [Ideal.ofBits, Ideal.ieee]
/-- The count is positive. -/
theorem count_pos : 0 < count := by
  unfold count
  simp only [Ideal.ofBits, Ideal.ieee]
  simp
  rw [← EReal.coe_mul]
  exact EReal.coe_pos.2 (by positivity)
/-- The count less the integer zero is the count. -/
theorem count_sub : count - FloatOps.sitofp (F := Ideal) FTy.f32 0#32 = count := by
  have e : FloatOps.sitofp (F := Ideal) FTy.f32 0#32 = (0 : EReal) := by
    show ((((0#32).toInt : ℤ) : ℝ) : EReal) = 0
    simp
  rw [e]
  exact sub_zero count

/-- `maskᵀ · x`, a sum over all fifty thousand rows. -/
def cov (mask : Fin 50000 → Fin 512 → EReal) (x : Fin 50000 → Fin 256 → EReal) (i : Fin 512) (j : Fin 256) : EReal :=
  ∑ n, mask n i * x n j

/-- Column `16 a + b` of a flattened 16 × 16 block. -/
def entry (a b : Fin 16) : Fin 256 := ⟨a.val * 16 + b.val, by omega⟩

/-- One over the root of diagonal entry `a` of block `i`. -/
def scale (v : Fin 512 → Fin 256 → EReal) (i : Fin 512) (a : Fin 16) : EReal := Ideal.rsqrt (v i (entry a a))

/-- Column `j` of block `i` scaled to a correlation and summed over its rows. -/
def corr (v : Fin 512 → Fin 256 → EReal) (i : Fin 512) (j : Fin 16) : EReal :=
  ∑ a, scale v i j * scale v i a * v i (entry a j)

/-- The mean of a column. -/
def mean (f : Fin 512 → EReal) : EReal := Ideal.div (∑ r, f r) count

/-- The (biased) variance of a column. -/
def variance (f : Fin 512 → EReal) : EReal := Ideal.div (∑ r, (f r - mean f) * (f r - mean f)) count

/-- Batch normalisation of each column, with gain `g` and offset `b`. -/
def norm {n : ℕ} (x : Fin 512 → Fin n → EReal) (g b : Fin n → EReal) (i : Fin 512) (j : Fin n) : EReal :=
  Ideal.div (x i j - mean fun r => x r j) (Ideal.sqrt (variance (fun r => x r j) + eps)) * g j + b j

/-- A linear layer `x · wᵀ + b`. -/
def linear {n k : ℕ} (x : Fin 512 → Fin k → EReal) (w : Fin n → Fin k → EReal) (b : Fin n → EReal) (i : Fin 512) (j : Fin n) : EReal :=
  ∑ a, x i a * w j a + b j

/-- A linear layer cut off at zero from below. -/
def hidden {n k : ℕ} (x : Fin 512 → Fin k → EReal) (w : Fin n → Fin k → EReal) (b : Fin n → EReal) (i : Fin 512) (j : Fin n) : EReal :=
  max (linear x w b i j) 0

/-- The exponential of a row's entry less the row's largest. -/
def expRow (z : Fin 128 → EReal) (j : Fin 128) : EReal := Ideal.exp (z j - Finset.univ.fold max ⊥ z)

/-- The softmax of a row. -/
def soft (z : Fin 128 → EReal) (j : Fin 128) : EReal := Ideal.div (expRow z j) (∑ k, expRow z k)

/-- Some column holds a row's largest entry. -/
theorem maximisers_nonempty (y : Fin 128 → EReal) : (Finset.univ.filter fun k => ∀ i, y i ≤ y k).Nonempty := by
  obtain ⟨k, _, hk⟩ := Finset.exists_max_image Finset.univ y Finset.univ_nonempty
  exact ⟨k, Finset.mem_filter.2 ⟨Finset.mem_univ k, fun i => hk i (Finset.mem_univ i)⟩⟩

/-- The first column that holds the row's largest entry. -/
def firstMax (y : Fin 128 → EReal) : Fin 128 := (Finset.univ.filter fun k => ∀ i, y i ≤ y k).min' (maximisers_nonempty y)

/-- The entry in that column is the largest. -/
theorem le_firstMax (y : Fin 128 → EReal) (i : Fin 128) : y i ≤ y (firstMax y) :=
  (Finset.mem_filter.1 (Finset.min'_mem _ (maximisers_nonempty y))).2 i

/-- Every column that holds an entry as large comes no earlier. -/
theorem firstMax_le (y : Fin 128 → EReal) (k : Fin 128) (hk : y k = y (firstMax y)) : firstMax y ≤ k :=
  Finset.min'_le _ _ (Finset.mem_filter.2 ⟨Finset.mem_univ k, fun i => hk ▸ le_firstMax y i⟩)

/-- The straight-through assignment of a row: the one-hot row of the first largest entry less the row, plus the row. -/
def assign (y : Fin 128 → EReal) (j : Fin 128) : EReal := (if j = firstMax y then 1 else 0) - y j + y j

/-- The whole of the third result, from the correlations on. -/
def head (x : Fin 512 → Fin 16 → EReal) (g1 b1 : Fin 16 → EReal) (w1 : Fin 512 → Fin 16 → EReal) (c1 : Fin 512 → EReal)
    (g2 b2 : Fin 512 → EReal) (w2 : Fin 128 → Fin 512 → EReal) (c2 : Fin 128 → EReal) (noise : Fin 512 → Fin 128 → EReal)
    (i : Fin 512) (j : Fin 128) : EReal :=
  assign (soft fun k => linear (norm (hidden (norm x g1 b1) w1 c1) g2 b2) w2 c2 i k + noise i k) j

end Cert.Spec

end
-- ==== Proof.Words.lean ====
module

public import Idealize.ShloMosaic.PureOps.Ideal.Laws
public import Idealize.ShloMosaic.Lib.WordCmp

@[expose] public section

set_option maxRecDepth 16384

noncomputable section

/-! Facts about the machine words the programs select with: column numbers, their quotients and remainders by 16, and the
    0/1 floats that a comparison of two of them becomes. -/

namespace Cert.Words

open Idealize.ShloMosaic

/-- Two small numbers are one word only if they are one number. -/
theorem ofNat_inj {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

/-- The kernel's 0/1 float of an equality of words. -/
theorem sitofp_eq (x y : BitVec 32) :
    (FloatOps.sitofp (F := Ideal) FTy.f32 (BitVec.setWidth 32 (IntOp.cmpi .eq x y)) : EReal) = if x = y then 1 else 0 := by
  by_cases h : x = y
  · subst h
    have e : BitVec.setWidth 32 (IntOp.cmpi .eq x x) = 1#32 := by simp [IntOp.cmpi]
    rw [e, if_pos rfl]
    show ((((1#32).toInt : ℤ) : ℝ) : EReal) = 1
    norm_num
  · have e : BitVec.setWidth 32 (IntOp.cmpi .eq x y) = 0#32 := by
      have : (x == y) = false := by simpa using h
      simp [IntOp.cmpi, this]
    rw [e, if_neg h]
    show ((((0#32).toInt : ℤ) : ℝ) : EReal) = 0
    norm_num

/-- The host's 0/1 float of an equality of words. -/
theorem uitofp_eq (x y : BitVec 32) :
    (FloatOps.uitofp (F := Ideal) FTy.f32 (IntOp.cmpi .eq x y) : EReal) = if x = y then 1 else 0 := by
  by_cases h : x = y
  · subst h
    have e : IntOp.cmpi .eq x x = 1#1 := by simp [IntOp.cmpi]
    rw [e, if_pos rfl]
    show ((((1#1).toNat : ℕ) : ℝ) : EReal) = 1
    norm_num
  · have e : IntOp.cmpi .eq x y = 0#1 := by
      have : (x == y) = false := by simpa using h
      simp [IntOp.cmpi, this]
    rw [e, if_neg h]
    show ((((0#1).toNat : ℕ) : ℝ) : EReal) = 0
    norm_num

/-- The kernel's remainder of a column number by 16, as its sign-corrected word. -/
def remWord (c : Fin 256) : BitVec 32 :=
  Scalar.select
    (IntOp.andi
      (IntOp.xori
        (IntOp.cmpi .slt (IntOp.remsi .vector (BitVec.ofNat 32 c.val) (Scalar.select (Scalar.cmpi .eq 16#32 0#32) 1#32 16#32)) 0#32)
        (Scalar.cmpi .slt (Scalar.select (Scalar.cmpi .eq 16#32 0#32) 1#32 16#32) 0#32))
      (IntOp.cmpi .ne (IntOp.remsi .vector (BitVec.ofNat 32 c.val) (Scalar.select (Scalar.cmpi .eq 16#32 0#32) 1#32 16#32)) 0#32))
    (IntOp.addi (IntOp.remsi .vector (BitVec.ofNat 32 c.val) (Scalar.select (Scalar.cmpi .eq 16#32 0#32) 1#32 16#32))
      (Scalar.select (Scalar.cmpi .eq 16#32 0#32) 1#32 16#32))
    (IntOp.remsi .vector (BitVec.ofNat 32 c.val) (Scalar.select (Scalar.cmpi .eq 16#32 0#32) 1#32 16#32))

/-- That word is the remainder. -/
theorem remWord_eq : ∀ c : Fin 256, remWord c = BitVec.ofNat 32 (c.val % 16) := by decide +kernel

/-- The kernel's quotient of a column number by 16, as its sign-corrected word. -/
def quotWord (c : Fin 256) : BitVec 32 :=
  Scalar.select
    (IntOp.andi
      (IntOp.cmpi .ne
        (IntOp.subi (BitVec.setWidth 32 (IntOp.cmpi .sgt (BitVec.ofNat 32 c.val) 0#32))
          (BitVec.setWidth 32 (IntOp.cmpi .slt (BitVec.ofNat 32 c.val) 0#32)))
        (Scalar.subi (Scalar.extui (Scalar.cmpi .sgt 16#32 0#32)) (Scalar.extui (Scalar.cmpi .slt 16#32 0#32))))
      (IntOp.cmpi .ne (IntOp.remsi .vector (BitVec.ofNat 32 c.val) 16#32) 0#32))
    (IntOp.subi (IntOp.divsi .vector (BitVec.ofNat 32 c.val) 16#32) 1#32)
    (IntOp.divsi .vector (BitVec.ofNat 32 c.val) 16#32)

/-- That word is the quotient. -/
theorem quotWord_eq : ∀ c : Fin 256, quotWord c = BitVec.ofNat 32 (c.val / 16) := by decide +kernel

/-- Seventeen times a block's row number, as a word. -/
theorem mulWord_eq : ∀ c : Fin 16, IntOp.muli (BitVec.ofNat 32 c.val) 17#32 = BitVec.ofNat 32 (c.val * 16 + c.val) := by decide +kernel

/-- The host's wrap from below leaves those words as they are. -/
theorem wrapWord_eq : ∀ c : Fin 16,
    Scalar.select (IntOp.cmpi .slt (IntOp.muli (BitVec.ofNat 32 c.val) 17#32) 0#32)
      (IntOp.addi (IntOp.muli (BitVec.ofNat 32 c.val) 17#32) 256#32) (IntOp.muli (BitVec.ofNat 32 c.val) 17#32)
      = BitVec.ofNat 32 (c.val * 16 + c.val) := by decide +kernel

/-- A small number's word, read signed, is the number. -/
theorem toInt_ofNat {a : ℕ} (ha : a < 2 ^ 31) : (BitVec.ofNat 32 a).toInt = (a : ℤ) := by
  rw [BitVec.toInt_eq_toNat_cond, BitVec.toNat_ofNat]
  split <;> omega

end Cert.Words

end
-- ==== Proof.KernelValue.lean ====
module

public import proofs.«01_k».proof.Proof.Gen.KernelIdeal.Skeleton
public import proofs.«01_k».proof.Proof.Spec
public import proofs.«01_k».proof.Proof.Words
public import Idealize.ShloMosaic.Lib.Pointwise

@[expose] public section

set_option maxRecDepth 16384

noncomputable section

/-! What the kernel's blocks compute, element by element, as the problem's mathematics. -/

namespace Cert.KernelIdeal.Value

open Cert.KernelIdeal Cert.KernelIdeal.Gen Idealize.ShloMosaic Cert.Spec Cert.Words

/-- One grid step's product: the rows of its block. -/
theorem pay1_apply (v0 : Vec Ideal S2000x512 .f32) (v1 : Vec Ideal S2000x256 .f32) (r : Fin 512) (c : Fin 256) :
    k0_pay1 v0 v1 (ix2 r c) = ∑ n, v0 (ix2 n r) * v1 (ix2 n c) := by
  pointwise [k0_pay1]

/-- A later grid step: the accumulator plus its block's product. -/
theorem pay2_apply (v0 : Vec Ideal S2000x512 .f32) (v1 : Vec Ideal S2000x256 .f32) (v12 : Vec Ideal S512x256 .f32) (r : Fin 512) (c : Fin 256) :
    k0_pay2 v0 v1 v12 (ix2 r c) = v12 (ix2 r c) + ∑ n, v0 (ix2 n r) * v1 (ix2 n c) := by
  pointwise [k0_pay2, k0_pay1]

/-- The load of the accumulator is the accumulator. -/
theorem pay4_apply (v12 : Vec Ideal S512x256 .f32) (r : Fin 512) (c : Fin 256) : k0_pay4 v12 (ix2 r c) = v12 (ix2 r c) := by
  pointwise [k0_pay4]

/-- The product with the 0/1 matrix of the diagonal picks the diagonal entries. -/
theorem pay5_apply (v12 : Vec Ideal S512x256 .f32) (r : Fin 512) (c : Fin 16) :
    k0_pay5 v12 (ix2 r c) = scale (fun i j => v12 (ix2 i j)) r c := by
  pointwise [k0_pay5, k0_pay4]
  unfold scale
  congr 1
  rw [Finset.sum_eq_single (entry c c)]
  · rw [sitofp_eq, mulWord_eq]
    exact (congrArg _ (if_pos rfl)).trans (mul_one _)
  · intro x _ hx
    rw [sitofp_eq, mulWord_eq, if_neg, mul_zero]
    intro h
    have h1 := x.isLt
    have h2 := c.isLt
    exact hx (Fin.ext (ofNat_inj (by omega) (by omega) h))
  · intro h
    exact absurd (Finset.mem_univ _) h

/-- The 0/1 matrix of the columns with a given remainder by 16. -/
theorem pay6_apply (r : Fin 16) (c : Fin 256) : (k0_pay6 (F := Ideal)) (ix2 r c) = if c.val % 16 = r.val then 1 else 0 := by
  pointwise [k0_pay6]
  rw [sitofp_eq]
  show (if remWord c = BitVec.ofNat 32 r.val then (1 : EReal) else 0) = _
  rw [remWord_eq]
  refine if_congr ⟨fun h => ofNat_inj (by omega) (by omega) h, fun h => by rw [h]⟩ rfl rfl

/-- A sum against one 0/1 column is the entry it marks. -/
theorem sum_pick {n : ℕ} (f : Fin n → EReal) (k : Fin n) (p : Fin n → Prop) [DecidablePred p] (hp : ∀ x, p x ↔ x = k) :
    (∑ x, f x * if p x then 1 else 0) = f k := by
  rw [Finset.sum_eq_single k]
  · rw [if_pos ((hp k).2 rfl), mul_one]
  · intro x _ hx
    rw [if_neg fun h => hx ((hp x).1 h), mul_zero]
  · intro h
    exact absurd (Finset.mem_univ _) h

/-- A sum over 256 columns against the 0/1 row of a remainder is the sum over the sixteen columns with that remainder. -/
theorem sum_rem (f : Fin 256 → EReal) (c : Fin 16) : (∑ x, f x * if x.val % 16 = c.val then 1 else 0) = ∑ a, f (entry a c) := by
  rw [← (finProdFinEquiv (m := 16) (n := 16)).sum_comp, Fintype.sum_prod_type]
  refine Finset.sum_congr rfl fun a _ => ?_
  rw [sum_pick (fun b => f (finProdFinEquiv (a, b))) c]
  · congr 1
    refine Fin.ext ?_
    show c.val + 16 * a.val = a.val * 16 + c.val
    omega
  · intro b
    show (b.val + 16 * a.val) % 16 = c.val ↔ b = c
    constructor
    · intro h
      exact Fin.ext (by omega)
    · intro h
      subst h
      omega

/-- The kernel's second result, from the accumulator, the scales and the 0/1 matrix it builds. -/
theorem pay9_apply (v12 : Vec Ideal S512x256 .f32) (r : Fin 512) (c : Fin 16) :
    k0_pay9 (k0_pay4 v12) (k0_pay5 v12) (iota .tc S16x256 32 [0] iota_S16x256_d0_w32) (iota .tc S16x256 32 [1] iota_S16x256_d1_w32)
        (k0_pay6 (F := Ideal)) 16#32 k0_pay7 k0_pay8 (Scalar.extui (Scalar.cmpi .sgt 16#32 0#32)) (Scalar.extui (Scalar.cmpi .slt 16#32 0#32))
        (ix2 r c)
      = corr (fun i j => v12 (ix2 i j)) r c := by
  pointwise [k0_pay9, k0_pay7, k0_pay8]
  simp only [sitofp_eq, pay4_apply, pay5_apply, pay6_apply]
  rw [sum_rem]
  unfold corr
  refine Finset.sum_congr rfl fun a _ => ?_
  rw [sum_pick _ c, sum_pick _ a]
  · intro x
    show quotWord (entry a c) = _ ↔ _
    rw [quotWord_eq]
    have e : (entry a c).val / 16 = a.val := by
      show (a.val * 16 + c.val) / 16 = a.val
      omega
    rw [e]
    constructor
    · intro h
      exact (Fin.ext (ofNat_inj (by omega) (by omega) h)).symm
    · intro h
      rw [h]
  · intro x
    have e : (entry a c).val % 16 = c.val := by
      show (a.val * 16 + c.val) % 16 = c.val
      omega
    rw [e]
    exact ⟨fun h => Fin.ext h.symm, fun h => by rw [h]⟩

end Cert.KernelIdeal.Value
end
-- ==== Proof.Argmax.lean ====
module

public import proofs.«01_k».proof.Proof.Spec
public import proofs.«01_k».proof.Proof.Words

@[expose] public section

set_option maxRecDepth 16384

noncomputable section

/-! The first largest entry of a row, found by a maximum and a smallest column number, and found by one pass that keeps
    the better of two candidates. -/

namespace Cert.Argmax

open Idealize.ShloMosaic Cert.Spec Cert.Words

/-- The maximum of a row, started at −∞, is the entry in its first largest column. -/
theorem fold_max_eq (y : Fin 128 → EReal) : Finset.univ.fold max ⊥ y = y (firstMax y) := by
  refine le_antisymm ?_ ?_
  · exact Finset.fold_max_le _ |>.2 ⟨bot_le, fun i _ => le_firstMax y i⟩
  · exact Finset.le_fold_max _ |>.2 (Or.inr ⟨firstMax y, Finset.mem_univ _, le_refl _⟩)

/-- A smaller signed word read as an integer is the smaller integer. -/
theorem toInt_minsi (x y : BitVec 32) : (IntOp.minsi x y).toInt = min x.toInt y.toInt := by
  unfold IntOp.minsi
  by_cases h : x.toInt < y.toInt
  · have e : x.slt y = true := by simp [BitVec.slt, h]
    rw [if_pos e, min_eq_left h.le]
  · have e : ¬ x.slt y = true := by simp [BitVec.slt, h]
    rw [if_neg e, min_eq_right (not_lt.1 h)]

/-- The smallest of some signed words read as an integer is the smallest integer. -/
theorem toInt_fold (g : Fin 128 → BitVec 32) (b : BitVec 32) (s : Finset (Fin 128)) :
    (s.fold IntOp.minsi b g).toInt = s.fold min b.toInt fun x => (g x).toInt := by
  induction s using Finset.induction_on with
  | empty => rfl
  | insert a s ha ih => rw [Finset.fold_insert ha, Finset.fold_insert ha, toInt_minsi, ih]

/-- The smallest column number among the columns that hold the maximum is the first largest column. -/
theorem fold_minsi_eq (y : Fin 128 → EReal) :
    (Finset.univ.fold IntOp.minsi 2147483647#32 fun x : Fin 128 =>
      if y x = Finset.univ.fold max ⊥ y then BitVec.ofNat 32 x.val else 128#32) = BitVec.ofNat 32 (firstMax y).val := by
  have hk : (firstMax y).val < 128 := (firstMax y).isLt
  refine BitVec.eq_of_toInt_eq ?_
  have ek : (BitVec.ofNat 32 (firstMax y).val).toInt = (firstMax y).val := toInt_ofNat (by omega)
  rw [toInt_fold, ek, fold_max_eq]
  refine le_antisymm ?_ ?_
  · refine (Finset.fold_min_le _).2 (Or.inr ⟨firstMax y, Finset.mem_univ _, ?_⟩)
    rw [if_pos rfl, ek]
  · refine (Finset.le_fold_min _).2 ⟨?_, fun x _ => ?_⟩
    · have e : (2147483647#32).toInt = 2147483647 := by decide
      rw [e]
      omega
    · by_cases h : y x = y (firstMax y)
      · rw [if_pos h, toInt_ofNat (a := x.val) (by omega)]
        exact_mod_cast firstMax_le y x h
      · rw [if_neg h]
        have e : (128#32).toInt = 128 := by decide
        rw [e]
        omega

/-! ### One pass that keeps the better of two candidates -/

/-- Candidate `p` is at least as good as `q`: a larger value, or an equal one at no later a column. -/
def Beats (p q : EReal × BitVec 32) : Prop := q.1 < p.1 ∨ (q.1 = p.1 ∧ p.2.toInt ≤ q.2.toInt)

/-- Every pair beats itself. -/
theorem Beats.refl (p : EReal × BitVec 32) : Beats p p := Or.inr ⟨rfl, le_refl _⟩

/-- Beating is transitive. -/
theorem Beats.trans {p q r : EReal × BitVec 32} (h₁ : Beats p q) (h₂ : Beats q r) : Beats p r := by
  rcases h₁ with a | ⟨a, b⟩ <;> rcases h₂ with c | ⟨c, d⟩
  · exact Or.inl (c.trans a)
  · exact Or.inl (c ▸ a)
  · exact Or.inl (a ▸ c)
  · exact Or.inr ⟨c.trans a, b.trans d⟩

/-- A step that keeps one of two candidates, one that beats both. -/
def Keeps (f : EReal × BitVec 32 → EReal × BitVec 32 → EReal × BitVec 32) : Prop :=
  ∀ a b, (f a b = a ∨ f a b = b) ∧ Beats (f a b) a ∧ Beats (f a b) b

/-- A pass of such steps ends with one of the candidates it met, which beats them all. -/
theorem foldl_keeps {f : EReal × BitVec 32 → EReal × BitVec 32 → EReal × BitVec 32} (hf : Keeps f)
    (l : List (EReal × BitVec 32)) (a : EReal × BitVec 32) :
    (l.foldl f a = a ∨ l.foldl f a ∈ l) ∧ Beats (l.foldl f a) a ∧ ∀ q ∈ l, Beats (l.foldl f a) q := by
  induction l generalizing a with
  | nil => exact ⟨Or.inl rfl, Beats.refl a, fun q hq => absurd hq List.not_mem_nil⟩
  | cons b l ih =>
    obtain ⟨hm, ha, hl⟩ := ih (f a b)
    obtain ⟨hc, h₁, h₂⟩ := hf a b
    rw [List.foldl_cons]
    refine ⟨?_, ha.trans h₁, fun q hq => ?_⟩
    · rcases hm with hm | hm
      · rcases hc with hc | hc
        · exact Or.inl (hm.trans hc)
        · exact Or.inr (by rw [hm, hc]; exact List.mem_cons_self)
      · exact Or.inr (List.mem_cons_of_mem _ hm)
    · rcases List.mem_cons.1 hq with rfl | hq
      · exact ha.trans h₂
      · exact hl q hq

/-- Such a pass over a row's entries with their columns, started at −∞ in column 0, ends at the first largest column. -/
theorem foldl_firstMax {f : EReal × BitVec 32 → EReal × BitVec 32 → EReal × BitVec 32} (hf : Keeps f) (y : Fin 128 → EReal)
    (l : List (EReal × BitVec 32)) (hl : ∀ q, q ∈ l ↔ ∃ c : Fin 128, q = (y c, BitVec.ofNat 32 c.val)) :
    (l.foldl f (⊥, 0#32)).2 = BitVec.ofNat 32 (firstMax y).val := by
  obtain ⟨hm, _, hb⟩ := foldl_keeps hf l (⊥, 0#32)
  have hk := hb _ ((hl _).2 ⟨firstMax y, rfl⟩)
  generalize l.foldl f (⊥, 0#32) = p at hm hk
  have hlt : (firstMax y).val < 128 := (firstMax y).isLt
  rcases hm with rfl | hm
  · -- the start itself: the whole row is −∞
    have e : y (firstMax y) = ⊥ := by
      rcases hk with h | ⟨h, _⟩
      · exact absurd h not_lt_bot
      · exact h
    have h0 : y 0 = y (firstMax y) := by
      rw [e]
      exact le_bot_iff.1 (e ▸ le_firstMax y 0)
    have := firstMax_le y 0 h0
    have e0 : firstMax y = 0 := le_antisymm this (Fin.zero_le _)
    rw [e0]
    rfl
  · obtain ⟨c, rfl⟩ := (hl p).1 hm
    have hc : c.val < 128 := c.isLt
    have ec : y c = y (firstMax y) := by
      rcases hk with h | ⟨h, _⟩
      · exact absurd h (not_lt.2 (le_firstMax y c))
      · exact h.symm
    have h1 := firstMax_le y c ec
    have h2 : c ≤ firstMax y := by
      rcases hk with h | ⟨_, h⟩
      · exact absurd h (not_lt.2 (le_firstMax y c))
      · have h' : (BitVec.ofNat 32 c.val).toInt ≤ (BitVec.ofNat 32 (firstMax y).val).toInt := h
        rw [toInt_ofNat (by omega), toInt_ofNat (by omega)] at h'
        exact_mod_cast h'
    rw [le_antisymm h2 h1]

end Cert.Argmax

end
-- ==== Proof.KernelHead.lean ====
module

public import proofs.«01_k».proof.Proof.KernelValue
public import proofs.«01_k».proof.Proof.Argmax

@[expose] public section

set_option maxRecDepth 16384

noncomputable section

/-! The last step's tail in the kernel: two normalisations, two linear layers, the softmax and its assignment. -/

namespace Cert.KernelIdeal.Value

open Cert.KernelIdeal Cert.KernelIdeal.Gen Idealize.ShloMosaic Cert.Spec Cert.Words Cert.Argmax

/-- The first normalisation: the scaled part plus the broadcast offset. -/
theorem pay10_apply (v13 : FVec Ideal S512x256 .f32) (v22 : FVec Ideal S512x16 .f32) (v23 v24 : IVec S16x256 32) (v43 : FVec Ideal S16x256 .f32)
    (w : BitVec 32) (v45 v52 : IVec S16x256 32) (v54 v56 : BitVec 32) (v93 v97 : Vec Ideal S1x16 .f32) (r : Fin 512) (c : Fin 16) :
    (k0_pay10 v13 v22 v23 v24 v43 w v45 v52 v54 v56 v93 (ix2 r c) + k0_pay11 v97 (ix2 r c) : EReal)
      = norm (fun i j => k0_pay9 v13 v22 v23 v24 v43 w v45 v52 v54 v56 (ix2 i j)) (fun j => v93 (ix2 0 j)) (fun j => v97 (ix2 0 j)) r c := by
  pointwise [k0_pay10, k0_pay11]
  rfl

/-- The hidden layer, its normalisation, and the product of the second linear layer. -/
theorem pay12_apply (v96 v99 v102 : FVec Ideal S512x16 .f32) (v105 v127 v131 : Vec Ideal S1x512 .f32) (v136 : Vec Ideal S128x512 .f32)
    (r : Fin 512) (c : Fin 128) :
    k0_pay12 v96 v99 v102 v105 v127 v131 v136 (ix2 r c)
      = ∑ a, norm (hidden (fun i j => (v96 (ix2 i j) + v99 (ix2 i j) : EReal)) (fun i j => v102 (ix2 i j)) fun j => v105 (ix2 0 j))
          (fun j => v127 (ix2 0 j)) (fun j => v131 (ix2 0 j)) r a * v136 (ix2 c a) := by
  pointwise [k0_pay12]
  rfl

/-- The bias, the noise, the softmax and the straight-through assignment. -/
theorem pay3_apply (v138 : FVec Ideal S512x128 .f32) (v139 : Vec Ideal S1x128 .f32) (v143 : Vec Ideal S512x128 .f32) (r : Fin 512) (c : Fin 128) :
    k0_pay3 v138 v139 v143 (ix2 r c)
      = assign (soft fun k => (v138 (ix2 r k) + v139 (ix2 0 k) + v143 (ix2 r k) : EReal)) c := by
  pointwise [k0_pay3]
  rw [sitofp_eq, ofBits_bot]
  generalize ez : (fun k => (v138 (ix2 r k) + v139 (ix2 0 k) + v143 (ix2 r k) : EReal)) = z
  have hz : ∀ k, (v138 (ix2 r k) + v139 (ix2 0 k) + v143 (ix2 r k) : EReal) = z k := fun k => congrFun ez k
  simp only [hz]
  unfold assign
  show (if BitVec.ofNat 32 c.val = Finset.univ.fold IntOp.minsi 2147483647#32 (fun x : Fin 128 =>
      if soft z x = Finset.univ.fold max ⊥ (soft z) then BitVec.ofNat 32 x.val else 128#32) then (1 : EReal) else 0) - soft z c + soft z c = _
  rw [fold_minsi_eq]
  congr 2
  refine if_congr ⟨fun h => Fin.ext (ofNat_inj (by omega) (by omega) h), fun h => by rw [h]⟩ rfl rfl

/-- The kernel's third result, from its second. -/
theorem head_apply (v13 : FVec Ideal S512x256 .f32) (v22 : FVec Ideal S512x16 .f32) (v23 v24 : IVec S16x256 32) (v43 : FVec Ideal S16x256 .f32)
    (w : BitVec 32) (v45 v52 : IVec S16x256 32) (v54 v56 : BitVec 32) (v93 v97 : Vec Ideal S1x16 .f32) (v102 : FVec Ideal S512x16 .f32)
    (v105 v127 v131 : Vec Ideal S1x512 .f32) (v136 : Vec Ideal S128x512 .f32) (v139 : Vec Ideal S1x128 .f32) (v143 : Vec Ideal S512x128 .f32)
    (r : Fin 512) (c : Fin 128) :
    k0_pay3 (k0_pay12 (k0_pay10 v13 v22 v23 v24 v43 w v45 v52 v54 v56 v93) (k0_pay11 v97) v102 v105 v127 v131 v136) v139 v143 (ix2 r c)
      = head (fun i j => k0_pay9 v13 v22 v23 v24 v43 w v45 v52 v54 v56 (ix2 i j)) (fun j => v93 (ix2 0 j)) (fun j => v97 (ix2 0 j))
          (fun i j => v102 (ix2 i j)) (fun j => v105 (ix2 0 j)) (fun j => v127 (ix2 0 j)) (fun j => v131 (ix2 0 j))
          (fun i j => v136 (ix2 i j)) (fun j => v139 (ix2 0 j)) (fun i j => v143 (ix2 i j)) r c := by
  rw [pay3_apply]
  simp only [pay12_apply, pay10_apply]
  rfl

end Cert.KernelIdeal.Value
end
-- ==== Proof.KernelBlocks.lean ====
module

public import proofs.«01_k».proof.Proof.KernelHead
public import proofs.«01_k».proof.Proof.Gen.KernelIdeal.Value
public import Idealize.ShloMosaic.Lib.Tactic

@[expose] public section

set_option maxRecDepth 16384

noncomputable section

/-! What one grid step leaves in its output blocks, as a function of the blocks it reads. -/

namespace Cert.KernelIdeal.Value

open Cert.KernelIdeal Cert.KernelIdeal.Gen Idealize.ShloMosaic

variable {F : FTy → Type} [FloatOps F]

/-- A block's offsets are zero. -/
theorem zeros : (![0, 0] : Fin 2 → Nat) = fun _ => 0 := funext fun a => by fin_cases a <;> rfl

/-- The second result's block, from the accumulator. -/
def corrBlock (v : Vec F S512x256 .f32) : FVec F S512x16 .f32 :=
  k0_pay9 (k0_pay4 v) (k0_pay5 v) (iota .tc S16x256 32 [0] iota_S16x256_d0_w32) (iota .tc S16x256 32 [1] iota_S16x256_d1_w32)
    k0_pay6 16#32 k0_pay7 k0_pay8 (Scalar.extui (Scalar.cmpi .sgt 16#32 0#32)) (Scalar.extui (Scalar.cmpi .slt 16#32 0#32))

/-- The third result's block, from the accumulator and the whole small operands. -/
def assignBlock (v : Vec F S512x256 .f32) (x2 : Vec F S1x16 .f32) (x3 : Vec F S1x16 .f32) (x4 : Vec F S512x16 .f32) (x5 : Vec F S1x512 .f32) (x6 : Vec F S1x512 .f32)
    (x7 : Vec F S1x512 .f32) (x8 : Vec F S128x512 .f32) (x9 : Vec F S1x128 .f32) (x10 : Vec F S512x128 .f32) :
    FVec F S512x128 .f32 :=
  k0_pay3 (k0_pay12 (k0_pay10 (k0_pay4 v) (k0_pay5 v) (iota .tc S16x256 32 [0] iota_S16x256_d0_w32)
    (iota .tc S16x256 32 [1] iota_S16x256_d1_w32) k0_pay6 16#32 k0_pay7 k0_pay8 (Scalar.extui (Scalar.cmpi .sgt 16#32 0#32))
    (Scalar.extui (Scalar.cmpi .slt 16#32 0#32)) x2) (k0_pay11 x3) x4 x5 x6 x7 x8) x9 x10

section

variable (c : Dev nD) (i : grid0.Coords)
  (a1 : Memref sig .tc .vmem S2000x512 .f32) (h1 : a1.IsWhole) (a2 : Memref sig .tc .vmem S2000x256 .f32) (h2 : a2.IsWhole)
  (a3 : Memref sig .tc .vmem S1x16 .f32) (h3 : a3.IsWhole) (a4 : Memref sig .tc .vmem S1x16 .f32) (h4 : a4.IsWhole)
  (a5 : Memref sig .tc .vmem S512x16 .f32) (h5 : a5.IsWhole) (a6 : Memref sig .tc .vmem S1x512 .f32) (h6 : a6.IsWhole)
  (a7 : Memref sig .tc .vmem S1x512 .f32) (h7 : a7.IsWhole) (a8 : Memref sig .tc .vmem S1x512 .f32) (h8 : a8.IsWhole)
  (a9 : Memref sig .tc .vmem S128x512 .f32) (h9 : a9.IsWhole) (a10 : Memref sig .tc .vmem S1x128 .f32) (h10 : a10.IsWhole)
  (a11 : Memref sig .tc .vmem S512x128 .f32) (h11 : a11.IsWhole) (a12 : Memref sig .tc .vmem S512x256 .f32) (h12 : a12.IsWhole)
  (a13 : Memref sig .tc .vmem S512x16 .f32) (h13 : a13.IsWhole) (a14 : Memref sig .tc .vmem S512x128 .f32) (h14 : a14.IsWhole)
  (x0 : Vec F S2000x512 .f32) (x1 : Vec F S2000x256 .f32) (x2 : Vec F S1x16 .f32) (x3 : Vec F S1x16 .f32)
  (x4 : Vec F S512x16 .f32) (x5 : Vec F S1x512 .f32) (x6 : Vec F S1x512 .f32) (x7 : Vec F S1x512 .f32)
  (x8 : Vec F S128x512 .f32) (x9 : Vec F S1x128 .f32) (x10 : Vec F S512x128 .f32)
  (xo : Vec F S512x256 .f32)

/-- The first step leaves its block's product in the accumulator. -/
theorem out_A_11 (c0 : cond0_0 i) (c1 : ¬cond0_1 i) (c2 : ¬cond0_2 i) :
    out0_A_11 c i a1 h1 a2 h2 a3 h3 a4 h4 a5 h5 a6 h6 a7 h7 a8 h8 a9 h9 a10 h10 a11 h11 a12 h12 a13 h13 a14 h14 c0 c1 c2 x0 x1 x2 x3 x4 x5 x6 x7 x8 x9 x10
      = k0_pay1 x0 x1 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 c0 c1 c2 x0 x1 x2 x3 x4 x5 x6 x7 x8 x9 x10)]
  unfold kernelRun0_A
  dsimp only
  sl_unfold_words
  rw [View.canon_unit_zero zeros]
  simp only [View.readAt_eq_ld, h1.read_unread, h2.read_unread, View.ld_unit_zero (S := S2000x512) zeros,
    View.ld_unit_zero (S := S2000x256) zeros]

/-- A later step adds its block's product to the accumulator. -/
theorem out_B_11 (c0 : ¬cond0_0 i) (c1 : cond0_1 i) (c2 : ¬cond0_2 i) :
    out0_B_11 c i a1 h1 a2 h2 a3 h3 a4 h4 a5 h5 a6 h6 a7 h7 a8 h8 a9 h9 a10 h10 a11 h11 a12 h12 a13 h13 a14 h14 c0 c1 c2 x0 x1 x2 x3 x4 x5 x6 x7 x8 x9 x10 xo
      = k0_pay2 x0 x1 xo := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 c0 c1 c2 x0 x1 x2 x3 x4 x5 x6 x7 x8 x9 x10 xo)]
  unfold kernelRun0_B
  dsimp only
  sl_unfold_words
  rw [View.canon_unit_zero zeros]
  simp only [View.readAt_eq_ld, h1.read_unread, h2.read_unread, h12.read_unread, View.ld_unit_zero (S := S2000x512) zeros,
    View.ld_unit_zero (S := S2000x256) zeros, View.ld_unit_zero (S := S512x256) zeros]

/-- So does the last step. -/
theorem out_C_11 (c0 : ¬cond0_0 i) (c1 : cond0_1 i) (c2 : cond0_2 i) :
    out0_C_11 c i a1 h1 a2 h2 a3 h3 a4 h4 a5 h5 a6 h6 a7 h7 a8 h8 a9 h9 a10 h10 a11 h11 a12 h12 a13 h13 a14 h14 c0 c1 c2 x0 x1 x2 x3 x4 x5 x6 x7 x8 x9 x10 xo
      = k0_pay2 x0 x1 xo := by
  unfold out0_C_11
  rw [View.read_writes_eq_canon _ _ _ (cover0_C_11 c i a1 h1 a2 h2 a3 h3 a4 h4 a5 h5 a6 h6 a7 h7 a8 h8 a9 h9 a10 h10 a11 h11 a12 h12 a13 h13 a14 h14 c0 c1 c2 x0 x1 x2 x3 x4 x5 x6 x7 x8 x9 x10 xo)]
  unfold kernelRun0_C
  dsimp only
  sl_unfold_words
  rw [View.canon_unit_zero zeros]
  simp only [View.readAt_eq_ld, h1.read_unread, h2.read_unread, h12.read_unread, View.ld_unit_zero (S := S2000x512) zeros,
    View.ld_unit_zero (S := S2000x256) zeros, View.ld_unit_zero (S := S512x256) zeros]

/-- The last step leaves the second result's block, from the accumulator it has just stored. -/
theorem out_C_12 (c0 : ¬cond0_0 i) (c1 : cond0_1 i) (c2 : cond0_2 i) :
    out0_C_12 c i a1 h1 a2 h2 a3 h3 a4 h4 a5 h5 a6 h6 a7 h7 a8 h8 a9 h9 a10 h10 a11 h11 a12 h12 a13 h13 a14 h14 c0 c1 c2 x0 x1 x2 x3 x4 x5 x6 x7 x8 x9 x10 xo
      = corrBlock (k0_pay2 x0 x1 xo) := by
  unfold out0_C_12
  rw [View.read_writes_eq_canon _ _ _ (cover0_C_12 c i a1 h1 a2 h2 a3 h3 a4 h4 a5 h5 a6 h6 a7 h7 a8 h8 a9 h9 a10 h10 a11 h11 a12 h12 a13 h13 a14 h14 c0 c1 c2 x0 x1 x2 x3 x4 x5 x6 x7 x8 x9 x10 xo)]
  unfold kernelRun0_C
  dsimp only
  sl_unfold_words
  rw [View.canon_unit_zero zeros]
  rw [View.readCov_unit_zero (S := S512x256) _ zeros]
  simp only [View.readAt_eq_ld, h1.read_unread, h2.read_unread, h12.read_unread, View.ld_unit_zero (S := S2000x512) zeros,
    View.ld_unit_zero (S := S2000x256) zeros, View.ld_unit_zero (S := S512x256) zeros]
  rfl

/-- The last step leaves the third result's block. -/
theorem out_C_13 (c0 : ¬cond0_0 i) (c1 : cond0_1 i) (c2 : cond0_2 i) :
    out0_C_13 c i a1 h1 a2 h2 a3 h3 a4 h4 a5 h5 a6 h6 a7 h7 a8 h8 a9 h9 a10 h10 a11 h11 a12 h12 a13 h13 a14 h14 c0 c1 c2 x0 x1 x2 x3 x4 x5 x6 x7 x8 x9 x10 xo
      = assignBlock (k0_pay2 x0 x1 xo) x2 x3 x4 x5 x6 x7 x8 x9 x10 := by
  unfold out0_C_13
  rw [View.read_writes_eq_canon _ _ _ (cover0_C_13 c i a1 h1 a2 h2 a3 h3 a4 h4 a5 h5 a6 h6 a7 h7 a8 h8 a9 h9 a10 h10 a11 h11 a12 h12 a13 h13 a14 h14 c0 c1 c2 x0 x1 x2 x3 x4 x5 x6 x7 x8 x9 x10 xo)]
  unfold kernelRun0_C
  dsimp only
  sl_unfold_words
  rw [View.canon_unit_zero zeros]
  rw [View.readCov_unit_zero (S := S512x256) _ zeros]
  simp only [View.readAt_eq_ld, h1.read_unread, h2.read_unread, h3.read_unread, h4.read_unread, h5.read_unread,
    h6.read_unread, h7.read_unread, h8.read_unread, h9.read_unread, h10.read_unread, h11.read_unread,
    h12.read_unread, View.ld_unit_zero (S := S2000x512) zeros, View.ld_unit_zero (S := S2000x256) zeros,
    View.ld_unit_zero (S := S1x16) zeros, View.ld_unit_zero (S := S512x16) zeros,
    View.ld_unit_zero (S := S1x512) zeros, View.ld_unit_zero (S := S128x512) zeros,
    View.ld_unit_zero (S := S1x128) zeros, View.ld_unit_zero (S := S512x128) zeros,
    View.ld_unit_zero (S := S512x256) zeros]
  rfl

end

end Cert.KernelIdeal.Value
end
-- ==== Proof.KernelRun.lean ====
module

public import proofs.«01_k».proof.Proof.KernelBlocks
public import Idealize.ShloMosaic.Lib.StableHlo.Run

@[expose] public section

set_option maxRecDepth 16384

noncomputable section

/-! What the kernel's operand blocks hold, what its accumulator holds after each step, and what its result arrays end
    with. -/

namespace Cert.KernelIdeal.Value

open Cert.KernelIdeal Cert.KernelIdeal.Gen Idealize.ShloMosaic Idealize.ShloMosaic.TcCoe Idealize.SL.Sem Cert.Spec
open Idealize.ShloMosaic.Pipeline (Dat)

section Operands

variable {F : FTy → Type} [FloatOps F]
variable (m : (ℓ : Loc nD τ sig) → Buf (Elt F) ℓ) (c : Dev nD)

/-- The grid's coordinate is the step. -/
theorem coord_eq (t : Fin cfg0.N) : (BitVec.ofNat 32 (grid0.coords t 0).val).toNat = t.val := by
  have ht : t.val < 25 := Nat.lt_of_lt_of_eq t.isLt N_0
  have e : (grid0.coords t 0).val = t.val / 1 % 25 := Pipeline.Grid.coords_val t 0 (by decide) rfl
  rw [e, BitVec.toNat_ofNat]
  omega

/-- Row `n` of block `t` is row `2000 t + n` of the array. -/
theorem row_lt (t : Fin cfg0.N) (n : Fin 2000) : t.val * 2000 + n.val < 50000 := by
  have ht : t.val < 25 := Nat.lt_of_lt_of_eq t.isLt N_0
  omega

/-- The mask's block at step `t`. -/
theorem mask_block (t : Fin cfg0.N) (n : Fin 2000) (i : Fin 512) :
    (iblk m c 0 t : Vec F S2000x512 .f32) (ix2 n i) = m ((c : Thread nD τ).loc main_arg1) (ix2 ⟨t.val * 2000 + n.val, row_lt t n⟩ i) := by
  unfold iblk
  rw [View.read_apply]
  show V m c main_arg1 _ = _
  rw [V_main_arg1]
  congr 1
  funext a
  apply Fin.ext
  match a with
  | ⟨0, _⟩ =>
    show (BitVec.ofNat 32 (grid0.coords t 0).val).toNat * 2000 + 1 * n.val = t.val * 2000 + n.val
    rw [coord_eq, one_mul]
  | ⟨1, _⟩ =>
    show 0 * 512 + 1 * i.val = i.val
    omega

/-- The data's block at step `t`. -/
theorem data_block (t : Fin cfg0.N) (n : Fin 2000) (j : Fin 256) :
    (iblk m c 1 t : Vec F S2000x256 .f32) (ix2 n j) = m ((c : Thread nD τ).loc main_arg0) (ix2 ⟨t.val * 2000 + n.val, row_lt t n⟩ j) := by
  unfold iblk
  rw [View.read_apply]
  show V m c main_arg0 _ = _
  rw [V_main_arg0]
  congr 1
  funext a
  apply Fin.ext
  match a with
  | ⟨0, _⟩ =>
    show (BitVec.ofNat 32 (grid0.coords t 0).val).toNat * 2000 + 1 * n.val = t.val * 2000 + n.val
    rw [coord_eq, one_mul]
  | ⟨1, _⟩ =>
    show 0 * 256 + 1 * j.val = j.val
    omega

/-- A window whose block index is zero reads its whole array. -/
theorem whole_read (r : Ref sig .tc) {off : Fin r.ty.shape.rank → Nat} (h : ∀ a, off a = 0)
    (inb : ∀ a, off a + r.ty.shape.size a ≤ r.ty.shape.size a) (f : r.ty.Contents (Elt F)) :
    ((Memref.whole r).access (Rect.unit off r.ty.shape.size inb) : View sig .tc _ _ _).read (Elt F) f = f :=
  Memref.read_access_unit_zero (Elt F) r (funext h) inb f

/-- A vector laid out as one row, read back. -/
theorem row_apply {n : ℕ} (x : (⟨1, ![n]⟩ : Shape).Idx → F .f32) (h : (⟨1, ![n]⟩ : Shape).ShapeCasts ⟨2, ![1, n]⟩) (j : Fin n) :
    shapeCast ⟨2, ![1, n]⟩ x h (ix2 0 j) = x (ix1 j) := by
  refine congrArg x (Shape.reshapeEquiv_eq_of_rowMajor h ?_)
  show (Shape.rowMajorPi _ _).val = (Shape.rowMajorPi _ _).val
  simp [Shape.rowMajorPi_succ_val, Fin.prod_univ_succ, Shape.rowMajorPi_fin0_val]

/-- The first layer's weights, read whole at any step. -/
theorem weights1_block (t : Fin cfg0.N) : (iblk m c 4 t : Vec F S512x16 .f32) = m ((c : Thread nD τ).loc main_arg4) :=
  (whole_read main_arg4 (fun a => match a with | ⟨0, _⟩ => rfl | ⟨1, _⟩ => rfl) _ (V m c main_arg4)).trans (V_main_arg4 m c)

/-- The second layer's weights, read whole at any step. -/
theorem weights2_block (t : Fin cfg0.N) : (iblk m c 8 t : Vec F S128x512 .f32) = m ((c : Thread nD τ).loc main_arg8) :=
  (whole_read main_arg8 (fun a => match a with | ⟨0, _⟩ => rfl | ⟨1, _⟩ => rfl) _ (V m c main_arg8)).trans (V_main_arg8 m c)

/-- The noise, read whole at any step. -/
theorem noise_block (t : Fin cfg0.N) : (iblk m c 10 t : Vec F S512x128 .f32) = m ((c : Thread nD τ).loc main_arg10) :=
  (whole_read main_arg10 (fun a => match a with | ⟨0, _⟩ => rfl | ⟨1, _⟩ => rfl) _ (V m c main_arg10)).trans (V_main_arg10 m c)

/-- The first normalisation's gain, read as one row at any step. -/
theorem gain1_block (t : Fin cfg0.N) (j : Fin 16) :
    (iblk m c 2 t : Vec F S1x16 .f32) (ix2 0 j) = m ((c : Thread nD τ).loc main_arg2) (ix1 j) := by
  have e : (iblk m c 2 t : Vec F S1x16 .f32) = V m c main_call0_v0 :=
    whole_read main_call0_v0 (fun a => match a with | ⟨0, _⟩ => rfl | ⟨1, _⟩ => rfl) _ (V m c main_call0_v0)
  rw [e]
  unfold V hostOps0
  after_results_simp
  exact row_apply _ _ j

/-- The first normalisation's offset, read as one row at any step. -/
theorem offset1_block (t : Fin cfg0.N) (j : Fin 16) :
    (iblk m c 3 t : Vec F S1x16 .f32) (ix2 0 j) = m ((c : Thread nD τ).loc main_arg3) (ix1 j) := by
  have e : (iblk m c 3 t : Vec F S1x16 .f32) = V m c main_call0_v1 :=
    whole_read main_call0_v1 (fun a => match a with | ⟨0, _⟩ => rfl | ⟨1, _⟩ => rfl) _ (V m c main_call0_v1)
  rw [e]
  unfold V hostOps0
  after_results_simp
  exact row_apply _ _ j

/-- The first layer's bias, read as one row at any step. -/
theorem bias1_block (t : Fin cfg0.N) (j : Fin 512) :
    (iblk m c 5 t : Vec F S1x512 .f32) (ix2 0 j) = m ((c : Thread nD τ).loc main_arg5) (ix1 j) := by
  have e : (iblk m c 5 t : Vec F S1x512 .f32) = V m c main_call0_v2 :=
    whole_read main_call0_v2 (fun a => match a with | ⟨0, _⟩ => rfl | ⟨1, _⟩ => rfl) _ (V m c main_call0_v2)
  rw [e]
  unfold V hostOps0
  after_results_simp
  exact row_apply _ _ j

/-- The second normalisation's gain, read as one row at any step. -/
theorem gain2_block (t : Fin cfg0.N) (j : Fin 512) :
    (iblk m c 6 t : Vec F S1x512 .f32) (ix2 0 j) = m ((c : Thread nD τ).loc main_arg6) (ix1 j) := by
  have e : (iblk m c 6 t : Vec F S1x512 .f32) = V m c main_call0_v3 :=
    whole_read main_call0_v3 (fun a => match a with | ⟨0, _⟩ => rfl | ⟨1, _⟩ => rfl) _ (V m c main_call0_v3)
  rw [e]
  unfold V hostOps0
  after_results_simp
  exact row_apply _ _ j

/-- The second normalisation's offset, read as one row at any step. -/
theorem offset2_block (t : Fin cfg0.N) (j : Fin 512) :
    (iblk m c 7 t : Vec F S1x512 .f32) (ix2 0 j) = m ((c : Thread nD τ).loc main_arg7) (ix1 j) := by
  have e : (iblk m c 7 t : Vec F S1x512 .f32) = V m c main_call0_v4 :=
    whole_read main_call0_v4 (fun a => match a with | ⟨0, _⟩ => rfl | ⟨1, _⟩ => rfl) _ (V m c main_call0_v4)
  rw [e]
  unfold V hostOps0
  after_results_simp
  exact row_apply _ _ j

/-- The second layer's bias, read as one row at any step. -/
theorem bias2_block (t : Fin cfg0.N) (j : Fin 128) :
    (iblk m c 9 t : Vec F S1x128 .f32) (ix2 0 j) = m ((c : Thread nD τ).loc main_arg9) (ix1 j) := by
  have e : (iblk m c 9 t : Vec F S1x128 .f32) = V m c main_call0_v5 :=
    whole_read main_call0_v5 (fun a => match a with | ⟨0, _⟩ => rfl | ⟨1, _⟩ => rfl) _ (V m c main_call0_v5)
  rw [e]
  unfold V hostOps0
  after_results_simp
  exact row_apply _ _ j

/-! ### The accumulator, step by step -/

/-- The first step leaves its block's product. -/
theorem acc_first (t : Fin cfg0.N) (h0 : t.val % 25 = 0) (h1 : ¬1 ≤ t.val) (h2 : ¬t.val % 25 = 24) :
    (outsAt0 m c t.val t.isLt).1 = k0_pay1 (iblk m c 0 t) (iblk m c 1 t) := by
  rw [outsAt0_A m c t h0 h1 h2]
  dsimp only
  rw [out_A_11]

/-- Each later step adds its block's product to what the step before left. -/
theorem acc_next (t : Fin cfg0.N) (h0 : ¬t.val % 25 = 0) (h1 : 1 ≤ t.val) :
    (outsAt0 m c t.val t.isLt).1
      = k0_pay2 (iblk m c 0 t) (iblk m c 1 t) (outsAt0 m c (t.val - 1) (Nat.lt_of_le_of_lt (Nat.sub_le _ _) t.isLt)).1 := by
  by_cases h2 : t.val % 25 = 24
  · rw [outsAt0_C m c t h0 h1 h2]
    dsimp only
    rw [out_C_11]
  · rw [outsAt0_B m c t h0 h1 h2]
    dsimp only
    rw [out_B_11]

/-- The last step leaves the second result's block, from the accumulator. -/
theorem corr_last (t : Fin cfg0.N) (h0 : ¬t.val % 25 = 0) (h1 : 1 ≤ t.val) (h2 : t.val % 25 = 24) :
    (outsAt0 m c t.val t.isLt).2.1 = corrBlock (outsAt0 m c t.val t.isLt).1 := by
  rw [acc_next m c t h0 h1, outsAt0_C m c t h0 h1 h2]
  dsimp only
  rw [out_C_12]

/-- The last step leaves the third result's block, from the accumulator and the small operands. -/
theorem assign_last (t : Fin cfg0.N) (h0 : ¬t.val % 25 = 0) (h1 : 1 ≤ t.val) (h2 : t.val % 25 = 24) :
    (outsAt0 m c t.val t.isLt).2.2
      = assignBlock (outsAt0 m c t.val t.isLt).1 (iblk m c 2 t) (iblk m c 3 t) (iblk m c 4 t) (iblk m c 5 t) (iblk m c 6 t)
          (iblk m c 7 t) (iblk m c 8 t) (iblk m c 9 t) (iblk m c 10 t) := by
  rw [acc_next m c t h0 h1, outsAt0_C m c t h0 h1 h2]
  dsimp only
  rw [out_C_13]

/-- The last step. -/
def last : Fin cfg0.N := ⟨24, Nat.lt_of_lt_of_eq (by decide) N_0.symm⟩

/-- What the last step leaves in the accumulator. -/
def accLast : Vec F S512x256 .f32 := (outsAt0 m c last.val last.isLt).1

/-! ### The result arrays -/

/-- A step that writes a result back is the last one. -/
theorem eq_last (t : Fin cfg0.N) (h : t.val % 25 = 24) : t = last := by
  have ht : t.val < 25 := Nat.lt_of_lt_of_eq t.isLt N_0
  exact Fin.ext (by show t.val = 24; omega)

/-- The first result's array ends with the accumulator. -/
theorem final_cov : (dats m 0 c).arrAt 11 cfg0.N = accLast m c :=
  (dats m 0 c).arrAt_eq_of_cover 11 (accLast m c)
    (fun t hf => by
      obtain rfl := eq_last t ((flush0_11 t).mp hf)
      rw [flushed11]
      exact (whole_read main_v0_0 (fun a => match a with | ⟨0, _⟩ => rfl | ⟨1, _⟩ => rfl) _ (accLast m c)).symm)
    fun i => ⟨last, (flush0_11 last).mpr rfl, by
      show i ∈ ((View.whole main_v0_0).slice (win0_11.rect last)).set
      rw [View.set_slice_whole, Rect.mem_set_unit]
      intro a
      match a with
      | ⟨0, _⟩ => exact ⟨Nat.zero_le _, (i 0).isLt⟩
      | ⟨1, _⟩ => exact ⟨Nat.zero_le _, (i 1).isLt⟩⟩

end Operands

end Cert.KernelIdeal.Value
end
-- ==== Proof.KernelResult.lean ====
module

public import proofs.«01_k».proof.Proof.KernelRun

@[expose] public section

set_option maxRecDepth 16384

noncomputable section

/-! What the kernel's three result arrays end with, as the problem's mathematics of its arguments. -/

namespace Cert.KernelIdeal.Value

open Cert.KernelIdeal Cert.KernelIdeal.Gen Idealize.ShloMosaic Idealize.ShloMosaic.TcCoe Idealize.SL.Sem Cert.Spec
open Idealize.ShloMosaic.Pipeline (Dat)

section Arrays

variable {F : FTy → Type} [FloatOps F]
variable (m : (ℓ : Loc nD τ sig) → Buf (Elt F) ℓ) (c : Dev nD)

/-- The third result's block at the last step. -/
def assignLast : Vec F S512x128 .f32 :=
  assignBlock (accLast m c) (iblk m c 2 last) (iblk m c 3 last) (iblk m c 4 last) (iblk m c 5 last) (iblk m c 6 last)
    (iblk m c 7 last) (iblk m c 8 last) (iblk m c 9 last) (iblk m c 10 last)

/-- The second result's array ends with the last step's block. -/
theorem final_corr : (dats m 0 c).arrAt 12 cfg0.N = corrBlock (accLast m c) :=
  (dats m 0 c).arrAt_eq_of_cover 12 (corrBlock (accLast m c))
    (fun t hf => by
      obtain rfl := eq_last t ((flush0_12 t).mp hf)
      rw [flushed12, corr_last m c last (by decide) (by decide) rfl]
      exact (whole_read main_v0_1 (fun a => match a with | ⟨0, _⟩ => rfl | ⟨1, _⟩ => rfl) _ (corrBlock (accLast m c))).symm)
    fun i => ⟨last, (flush0_12 last).mpr rfl, by
      show i ∈ ((View.whole main_v0_1).slice (win0_12.rect last)).set
      rw [View.set_slice_whole, Rect.mem_set_unit]
      intro a
      match a with
      | ⟨0, _⟩ => exact ⟨Nat.zero_le _, (i 0).isLt⟩
      | ⟨1, _⟩ => exact ⟨Nat.zero_le _, (i 1).isLt⟩⟩

/-- The third result's array ends with the last step's block. -/
theorem final_assign : (dats m 0 c).arrAt 13 cfg0.N = assignLast m c :=
  (dats m 0 c).arrAt_eq_of_cover 13 (assignLast m c)
    (fun t hf => by
      obtain rfl := eq_last t ((flush0_13 t).mp hf)
      rw [flushed13, assign_last m c last (by decide) (by decide) rfl]
      exact (whole_read main_v0_2 (fun a => match a with | ⟨0, _⟩ => rfl | ⟨1, _⟩ => rfl) _ (assignLast m c)).symm)
    fun i => ⟨last, (flush0_13 last).mpr rfl, by
      show i ∈ ((View.whole main_v0_2).slice (win0_13.rect last)).set
      rw [View.set_slice_whole, Rect.mem_set_unit]
      intro a
      match a with
      | ⟨0, _⟩ => exact ⟨Nat.zero_le _, (i 0).isLt⟩
      | ⟨1, _⟩ => exact ⟨Nat.zero_le _, (i 1).isLt⟩⟩

end Arrays

variable (m : (ℓ : Loc nD τ sig) → Buf (Elt Ideal) ℓ) (ρ : Dev nD → PrngReg) (c : Dev nD)

/-- The mask, by row and column. -/
def maskAt (n : Fin 50000) (i : Fin 512) : EReal := m ((c : Thread nD τ).loc main_arg1) (ix2 n i)
/-- The data, by row and column. -/
def dataAt (n : Fin 50000) (j : Fin 256) : EReal := m ((c : Thread nD τ).loc main_arg0) (ix2 n j)

/-- Row `n`'s term of the covariance, zero past the last row. -/
def rowTerm (i : Fin 512) (j : Fin 256) (n : ℕ) : EReal := if h : n < 50000 then maskAt m c ⟨n, h⟩ i * dataAt m c ⟨n, h⟩ j else 0

/-- The mask's block at a step. -/
def maskBlk (t : Fin cfg0.N) : Vec Ideal S2000x512 .f32 := iblk m c 0 t
/-- The data's block at a step. -/
def dataBlk (t : Fin cfg0.N) : Vec Ideal S2000x256 .f32 := iblk m c 1 t

/-- A block's product is the sum of its rows' terms. -/
theorem block_sum (t : Fin cfg0.N) (i : Fin 512) (j : Fin 256) :
    (∑ n : Fin 2000, maskBlk m c t (ix2 n i) * dataBlk m c t (ix2 n j))
      = ∑ n ∈ Finset.range 2000, rowTerm m c i j (t.val * 2000 + n) := by
  rw [Finset.sum_range]
  refine Finset.sum_congr rfl fun n _ => ?_
  rw [maskBlk, dataBlk, mask_block, data_block, rowTerm, dif_pos (row_lt t n)]
  rfl

/-- After step `n` the accumulator holds the terms of the rows of all blocks up to it. -/
theorem acc_eq (i : Fin 512) (j : Fin 256) : ∀ (n : ℕ) (h : n < cfg0.N),
    (outsAt0 m c n h).1 (ix2 i j) = ∑ k ∈ Finset.range ((n + 1) * 2000), rowTerm m c i j k
  | 0, h => by
    rw [acc_first m c ⟨0, h⟩ rfl (Nat.not_succ_le_zero 0) (by decide : ¬0 % 25 = 24)]
    refine (pay1_apply (maskBlk m c ⟨0, h⟩) (dataBlk m c ⟨0, h⟩) i j).trans ((block_sum m c ⟨0, h⟩ i j).trans ?_)
    refine Finset.sum_congr (by norm_num) fun k _ => ?_
    show rowTerm m c i j (0 * 2000 + k) = _
    rw [zero_mul, zero_add]
  | n + 1, h => by
    have hN : n + 1 < 25 := Nat.lt_of_lt_of_eq h N_0
    have h0 : ¬(n + 1) % 25 = 0 := by omega
    rw [acc_next m c ⟨n + 1, h⟩ h0 (Nat.le_add_left 1 n)]
    refine (pay2_apply (maskBlk m c ⟨n + 1, h⟩) (dataBlk m c ⟨n + 1, h⟩) _ i j).trans ?_
    rw [block_sum]
    show (outsAt0 m c n _).1 (ix2 i j) + _ = _
    rw [acc_eq i j n, add_mul (n + 1) 1 2000, one_mul, Finset.sum_range_add]

/-- The accumulator ends with the masked covariance. -/
theorem accLast_apply (i : Fin 512) (j : Fin 256) : accLast m c (ix2 i j) = cov (maskAt m c) (dataAt m c) i j := by
  unfold accLast
  rw [acc_eq m c i j last.val last.isLt]
  show ∑ k ∈ Finset.range 50000, rowTerm m c i j k = _
  rw [Finset.sum_range]
  refine Finset.sum_congr rfl fun n _ => ?_
  rw [rowTerm, dif_pos n.isLt]

/-- The second result is the correlation's row sums. -/
theorem corrLast_apply (i : Fin 512) (j : Fin 16) :
    corrBlock (accLast m c) (ix2 i j) = corr (cov (maskAt m c) (dataAt m c)) i j := by
  unfold corrBlock
  rw [pay9_apply]
  simp only [accLast_apply]

/-- The third result is the straight-through assignment. -/
theorem assignLast_apply (i : Fin 512) (j : Fin 128) :
    assignLast m c (ix2 i j)
      = head (corr (cov (maskAt m c) (dataAt m c)))
          (fun a => m ((c : Thread nD τ).loc main_arg2) (ix1 a)) (fun a => m ((c : Thread nD τ).loc main_arg3) (ix1 a))
          (fun a b => m ((c : Thread nD τ).loc main_arg4) (ix2 a b)) (fun a => m ((c : Thread nD τ).loc main_arg5) (ix1 a))
          (fun a => m ((c : Thread nD τ).loc main_arg6) (ix1 a)) (fun a => m ((c : Thread nD τ).loc main_arg7) (ix1 a))
          (fun a b => m ((c : Thread nD τ).loc main_arg8) (ix2 a b)) (fun a => m ((c : Thread nD τ).loc main_arg9) (ix1 a))
          (fun a b => m ((c : Thread nD τ).loc main_arg10) (ix2 a b)) i j := by
  unfold assignLast assignBlock
  rw [head_apply, weights1_block, weights2_block, noise_block]
  simp only [gain1_block, offset1_block, bias1_block, gain2_block, offset2_block, bias2_block]
  exact congrArg (fun x => head x _ _ _ _ _ _ _ _ _ i j) (funext fun r => funext fun k => corrLast_apply m c r k)

end Cert.KernelIdeal.Value
end
-- ==== Proof.RefOps.lean ====
module

public import proofs.«01_k».proof.Proof.Gen.ReferenceIdeal
public import Idealize.ShloMosaic.Lib.StableHlo.Run

@[expose] public section

set_option maxRecDepth 16384

noncomputable section

/-! The reference's operations in order, cut where a named intermediate array is ready, and the reference's run as the
    run of that list. -/

namespace Cert.ReferenceIdeal.Run

open Cert.ReferenceIdeal Cert.ReferenceIdeal.Facts₀ Idealize.ShloMosaic Idealize.ShloMosaic.StableHlo
open Idealize.SL.Sem

variable {F : FTy → Type} [FloatOps F]

/-- The covariance, its diagonal, the outer product of the diagonal and the sums over its second axis: the first two results. -/
abbrev corrOps : List (HloOp τ sig (Elt F)) :=
  [ StableHlo.unary main_arg1 main_v0 ((transpose S512x50000 [1, 0] · transposes_S50000x512_S512x50000_1_0) : (⟨S50000x512, .f32⟩ : BufTy).Contents (Elt F) → (⟨S512x50000, .f32⟩ : BufTy).Contents (Elt F)),
    StableHlo.binary main_v0 main_arg0 main_v1 ((fun l r => Host.dotGeneral dot_S512x50000_S50000x256_S512x256_1_0_0_1_n_n none l r) : (⟨S512x50000, .f32⟩ : BufTy).Contents (Elt F) → (⟨S50000x256, .f32⟩ : BufTy).Contents (Elt F) → (⟨S512x256, .f32⟩ : BufTy).Contents (Elt F)),
    StableHlo.nullary main_v2 (iotaInDim S16 32 0),
    StableHlo.nullary main_c (constantI S_ 32 17#32),
    StableHlo.unary main_c main_v3 (broadcastInDim S16 ![] bcast_S_S16 : (⟨S_, .i32⟩ : BufTy).Contents (Elt F) → (⟨S16, .i32⟩ : BufTy).Contents (Elt F)),
    StableHlo.binary main_v2 main_v3 main_v4 (muli : (⟨S16, .i32⟩ : BufTy).Contents (Elt F) → (⟨S16, .i32⟩ : BufTy).Contents (Elt F) → (⟨S16, .i32⟩ : BufTy).Contents (Elt F)),
    StableHlo.nullary main_c_0 (constantI S_ 32 0#32),
    StableHlo.unary main_c_0 main_v5 (broadcastInDim S16 ![] bcast_S_S16 : (⟨S_, .i32⟩ : BufTy).Contents (Elt F) → (⟨S16, .i32⟩ : BufTy).Contents (Elt F)),
    StableHlo.binary main_v4 main_v5 main_v6 (cmpi .slt : (⟨S16, .i32⟩ : BufTy).Contents (Elt F) → (⟨S16, .i32⟩ : BufTy).Contents (Elt F) → (⟨S16, .i1⟩ : BufTy).Contents (Elt F)),
    StableHlo.nullary main_c_1 (constantI S_ 32 256#32),
    StableHlo.unary main_c_1 main_v7 (broadcastInDim S16 ![] bcast_S_S16 : (⟨S_, .i32⟩ : BufTy).Contents (Elt F) → (⟨S16, .i32⟩ : BufTy).Contents (Elt F)),
    StableHlo.binary main_v4 main_v7 main_v8 (addi : (⟨S16, .i32⟩ : BufTy).Contents (Elt F) → (⟨S16, .i32⟩ : BufTy).Contents (Elt F) → (⟨S16, .i32⟩ : BufTy).Contents (Elt F)),
    StableHlo.ternary main_v6 main_v8 main_v4 main_v9 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v9 main_v10 (broadcastInDim S16x1 ![0] bcast_S16_S16x1_0 : (⟨S16, .i32⟩ : BufTy).Contents (Elt F) → (⟨S16x1, .i32⟩ : BufTy).Contents (Elt F)),
    StableHlo.binary main_v1 main_v10 main_v11 ((fun x i => Host.gather gather_S512x256_S16x1_S512x16_0_1_n_n_1_1_5121 x i) : (⟨S512x256, .f32⟩ : BufTy).Contents (Elt F) → (⟨S16x1, .i32⟩ : BufTy).Contents (Elt F) → (⟨S512x16, .f32⟩ : BufTy).Contents (Elt F)),
    StableHlo.unary main_v11 main_v12 (Host.rsqrt : (⟨S512x16, .f32⟩ : BufTy).Contents (Elt F) → (⟨S512x16, .f32⟩ : BufTy).Contents (Elt F)),
    StableHlo.reshape main_v12 main_v13 (rfl : (.f32 : EltTy) = .f32) shapeCasts_S512x16_S1x512x1x16,
    StableHlo.unary main_v13 main_v14 (broadcastInDim S1x512x16x16 ![0, 1, 2, 3] bcast_S1x512x1x16_S1x512x16x16_0_1_2_3 : (⟨S1x512x1x16, .f32⟩ : BufTy).Contents (Elt F) → (⟨S1x512x16x16, .f32⟩ : BufTy).Contents (Elt F)),
    StableHlo.reshape main_v14 main_v15 (rfl : (.f32 : EltTy) = .f32) shapeCasts_S1x512x16x16_S512x256,
    StableHlo.unary main_v12 main_v16 (broadcastInDim S512x16x16 ![0, 1] bcast_S512x16_S512x16x16_0_1 : (⟨S512x16, .f32⟩ : BufTy).Contents (Elt F) → (⟨S512x16x16, .f32⟩ : BufTy).Contents (Elt F)),
    StableHlo.reshape main_v16 main_v17 (rfl : (.f32 : EltTy) = .f32) shapeCasts_S512x16x16_S512x256,
    StableHlo.binary main_v15 main_v17 main_v18 (mulf : (⟨S512x256, .f32⟩ : BufTy).Contents (Elt F) → (⟨S512x256, .f32⟩ : BufTy).Contents (Elt F) → (⟨S512x256, .f32⟩ : BufTy).Contents (Elt F)),
    StableHlo.binary main_v18 main_v1 main_v19 (mulf : (⟨S512x256, .f32⟩ : BufTy).Contents (Elt F) → (⟨S512x256, .f32⟩ : BufTy).Contents (Elt F) → (⟨S512x256, .f32⟩ : BufTy).Contents (Elt F)),
    StableHlo.reshape main_v19 main_v20 (rfl : (.f32 : EltTy) = .f32) shapeCasts_S512x256_S512x16x16,
    StableHlo.nullary main_cst (constant S_ .f32 0x00000000#32),
    StableHlo.binary main_v20 main_cst main_v21 ((fun x v => Host.reduceAdd x v reducesTo_S512x16x16_S512x16_d1 h_S_) : (⟨S512x16x16, .f32⟩ : BufTy).Contents (Elt F) → (⟨S_, .f32⟩ : BufTy).Contents (Elt F) → (⟨S512x16, .f32⟩ : BufTy).Contents (Elt F)) ]

/-- The operations of `corrOps` touch only the program's buffers. -/
theorem corrOps_sub : (corrOps (F := F)).Forall fun op => op.bufs ⊆ tcRefs τ sig :=
  ⟨unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., reshape_bufs_sub .., binary_bufs_sub .., binary_bufs_sub .., reshape_bufs_sub .., nullary_bufs_sub .., binary_bufs_sub ..⟩

/-- The first batch normalisation, of the correlations. -/
abbrev norm1Ops : List (HloOp τ sig (Elt F)) :=
  [ StableHlo.nullary main_cst_2 (constant S_ .f32 0x00000000#32),
    StableHlo.binary main_v21 main_cst_2 main_v22 ((fun x v => Host.reduceAdd x v reducesTo_S512x16_S16_d0 h_S_) : (⟨S512x16, .f32⟩ : BufTy).Contents (Elt F) → (⟨S_, .f32⟩ : BufTy).Contents (Elt F) → (⟨S16, .f32⟩ : BufTy).Contents (Elt F)),
    StableHlo.nullary main_cst_3 (constant S_ .f32 0x44000000#32),
    StableHlo.unary main_cst_3 main_v23 (broadcastInDim S16 ![] bcast_S_S16 : (⟨S_, .f32⟩ : BufTy).Contents (Elt F) → (⟨S16, .f32⟩ : BufTy).Contents (Elt F)),
    StableHlo.binary main_v22 main_v23 main_v24 (Host.divf : (⟨S16, .f32⟩ : BufTy).Contents (Elt F) → (⟨S16, .f32⟩ : BufTy).Contents (Elt F) → (⟨S16, .f32⟩ : BufTy).Contents (Elt F)),
    StableHlo.nullary main_c_4 (constantI S_ 32 0#32),
    StableHlo.TRef.nullary (.of main_call0_cst : StableHlo.TRef sig ⟨S_, .f32⟩) (constant S_ .f32 0x00000000#32),
    StableHlo.TRef.binary (.of main_v21 : StableHlo.TRef sig ⟨S512x16, .f32⟩) (.of main_call0_cst : StableHlo.TRef sig ⟨S_, .f32⟩) (.of main_call0_v0 : StableHlo.TRef sig ⟨S16, .f32⟩) (fun x v => Host.reduceAdd x v reducesTo_S512x16_S16_d0 h_S_),
    StableHlo.TRef.unary (.of main_call0_v0 : StableHlo.TRef sig ⟨S16, .f32⟩) (.of main_call0_v1 : StableHlo.TRef sig ⟨S1x16, .f32⟩) (broadcastInDim S1x16 ![1] bcast_S16_S1x16_1),
    StableHlo.TRef.nullary (.of main_call0_cst_0 : StableHlo.TRef sig ⟨S_, .f32⟩) (constant S_ .f32 0x44000000#32),
    StableHlo.TRef.unary (.of main_call0_cst_0 : StableHlo.TRef sig ⟨S_, .f32⟩) (.of main_call0_v2 : StableHlo.TRef sig ⟨S1x16, .f32⟩) (broadcastInDim S1x16 ![] bcast_S_S1x16),
    StableHlo.TRef.binary (.of main_call0_v1 : StableHlo.TRef sig ⟨S1x16, .f32⟩) (.of main_call0_v2 : StableHlo.TRef sig ⟨S1x16, .f32⟩) (.of main_call0_v3 : StableHlo.TRef sig ⟨S1x16, .f32⟩) Host.divf,
    StableHlo.TRef.unary (.of main_call0_v3 : StableHlo.TRef sig ⟨S1x16, .f32⟩) (.of main_call0_v4 : StableHlo.TRef sig ⟨S512x16, .f32⟩) (broadcastInDim S512x16 ![0, 1] bcast_S1x16_S512x16_0_1),
    StableHlo.TRef.binary (.of main_v21 : StableHlo.TRef sig ⟨S512x16, .f32⟩) (.of main_call0_v4 : StableHlo.TRef sig ⟨S512x16, .f32⟩) (.of main_call0_v5 : StableHlo.TRef sig ⟨S512x16, .f32⟩) subf,
    StableHlo.TRef.binary (.of main_call0_v5 : StableHlo.TRef sig ⟨S512x16, .f32⟩) (.of main_call0_v5 : StableHlo.TRef sig ⟨S512x16, .f32⟩) (.of main_call0_v6 : StableHlo.TRef sig ⟨S512x16, .f32⟩) mulf,
    StableHlo.TRef.unary (.of main_c_4 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x44000000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S512x16, .f32⟩) (.of main_call0_cst_2 : StableHlo.TRef sig ⟨S_, .f32⟩) (.of main_call0_v9 : StableHlo.TRef sig ⟨S16, .f32⟩) (fun x v => Host.reduceAdd x v reducesTo_S512x16_S16_d0 h_S_),
    StableHlo.TRef.unary (.of main_call0_v8 : StableHlo.TRef sig ⟨S_, .f32⟩) (.of main_call0_v10 : StableHlo.TRef sig ⟨S16, .f32⟩) (broadcastInDim S16 ![] bcast_S_S16),
    StableHlo.TRef.binary (.of main_call0_v9 : StableHlo.TRef sig ⟨S16, .f32⟩) (.of main_call0_v10 : StableHlo.TRef sig ⟨S16, .f32⟩) (.of main_call0_v11 : StableHlo.TRef sig ⟨S16, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S16, .f32⟩) (broadcastInDim S16 ![] bcast_S_S16),
    StableHlo.TRef.ternary (.of main_call0_v12 : StableHlo.TRef sig ⟨S_, .i1⟩) (.of main_call0_v11 : StableHlo.TRef sig ⟨S16, .f32⟩) (.of main_call0_call0_v1 : StableHlo.TRef sig ⟨S16, .f32⟩) (.of main_v25 : StableHlo.TRef sig ⟨S16, .f32⟩) (fun p a b => select (broadcastInDim S16 ![] bcast_S_S16 p) a b),
    StableHlo.unary main_v24 main_v26 (broadcastInDim S1x16 ![1] bcast_S16_S1x16_1 : (⟨S16, .f32⟩ : BufTy).Contents (Elt F) → (⟨S1x16, .f32⟩ : BufTy).Contents (Elt F)),
    StableHlo.unary main_v26 main_v27 (broadcastInDim S512x16 ![0, 1] bcast_S1x16_S512x16_0_1 : (⟨S1x16, .f32⟩ : BufTy).Contents (Elt F) → (⟨S512x16, .f32⟩ : BufTy).Contents (Elt F)),
    StableHlo.binary main_v21 main_v27 main_v28 (subf : (⟨S512x16, .f32⟩ : BufTy).Contents (Elt F) → (⟨S512x16, .f32⟩ : BufTy).Contents (Elt F) → (⟨S512x16, .f32⟩ : BufTy).Contents (Elt F)),
    StableHlo.nullary main_cst_5 (constant S_ .f32 0x3727C5AC#32),
    StableHlo.unary main_cst_5 main_v29 (broadcastInDim S16 ![] bcast_S_S16 : (⟨S_, .f32⟩ : BufTy).Contents (Elt F) → (⟨S16, .f32⟩ : BufTy).Contents (Elt F)),
    StableHlo.binary main_v25 main_v29 main_v30 (addf : (⟨S16, .f32⟩ : BufTy).Contents (Elt F) → (⟨S16, .f32⟩ : BufTy).Contents (Elt F) → (⟨S16, .f32⟩ : BufTy).Contents (Elt F)),
    StableHlo.unary main_v30 main_v31 (Host.sqrt : (⟨S16, .f32⟩ : BufTy).Contents (Elt F) → (⟨S16, .f32⟩ : BufTy).Contents (Elt F)),
    StableHlo.unary main_v31 main_v32 (broadcastInDim S1x16 ![1] bcast_S16_S1x16_1 : (⟨S16, .f32⟩ : BufTy).Contents (Elt F) → (⟨S1x16, .f32⟩ : BufTy).Contents (Elt F)),
    StableHlo.unary main_v32 main_v33 (broadcastInDim S512x16 ![0, 1] bcast_S1x16_S512x16_0_1 : (⟨S1x16, .f32⟩ : BufTy).Contents (Elt F) → (⟨S512x16, .f32⟩ : BufTy).Contents (Elt F)),
    StableHlo.binary main_v28 main_v33 main_v34 (Host.divf : (⟨S512x16, .f32⟩ : BufTy).Contents (Elt F) → (⟨S512x16, .f32⟩ : BufTy).Contents (Elt F) → (⟨S512x16, .f32⟩ : BufTy).Contents (Elt F)),
    StableHlo.unary main_arg2 main_v35 (broadcastInDim S1x16 ![1] bcast_S16_S1x16_1 : (⟨S16, .f32⟩ : BufTy).Contents (Elt F) → (⟨S1x16, .f32⟩ : BufTy).Contents (Elt F)),
    StableHlo.unary main_v35 main_v36 (broadcastInDim S512x16 ![0, 1] bcast_S1x16_S512x16_0_1 : (⟨S1x16, .f32⟩ : BufTy).Contents (Elt F) → (⟨S512x16, .f32⟩ : BufTy).Contents (Elt F)),
    StableHlo.binary main_v34 main_v36 main_v37 (mulf : (⟨S512x16, .f32⟩ : BufTy).Contents (Elt F) → (⟨S512x16, .f32⟩ : BufTy).Contents (Elt F) → (⟨S512x16, .f32⟩ : BufTy).Contents (Elt F)),
    StableHlo.unary main_arg3 main_v38 (broadcastInDim S1x16 ![1] bcast_S16_S1x16_1 : (⟨S16, .f32⟩ : BufTy).Contents (Elt F) → (⟨S1x16, .f32⟩ : BufTy).Contents (Elt F)),
    StableHlo.unary main_v38 main_v39 (broadcastInDim S512x16 ![0, 1] bcast_S1x16_S512x16_0_1 : (⟨S1x16, .f32⟩ : BufTy).Contents (Elt F) → (⟨S512x16, .f32⟩ : BufTy).Contents (Elt F)),
    StableHlo.binary main_v37 main_v39 main_v40 (addf : (⟨S512x16, .f32⟩ : BufTy).Contents (Elt F) → (⟨S512x16, .f32⟩ : BufTy).Contents (Elt F) → (⟨S512x16, .f32⟩ : BufTy).Contents (Elt F)) ]

/-- The operations of `norm1Ops` touch only the program's buffers. -/
theorem norm1Ops_sub : (norm1Ops (F := F)).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

/-- The first linear layer and its rectifier. -/
abbrev hiddenOps : List (HloOp τ sig (Elt F)) :=
  [ StableHlo.unary main_arg4 main_v41 ((transpose S16x512 [1, 0] · transposes_S512x16_S16x512_1_0) : (⟨S512x16, .f32⟩ : BufTy).Contents (Elt F) → (⟨S16x512, .f32⟩ : BufTy).Contents (Elt F)),
    StableHlo.binary main_v40 main_v41 main_v42 ((fun l r => Host.dotGeneral dot_S512x16_S16x512_S512x512_1_0_0_1_n_n none l r) : (⟨S512x16, .f32⟩ : BufTy).Contents (Elt F) → (⟨S16x512, .f32⟩ : BufTy).Contents (Elt F) → (⟨S512x512, .f32⟩ : BufTy).Contents (Elt F)),
    StableHlo.unary main_arg5 main_v43 (broadcastInDim S1x512 ![1] bcast_S512_S1x512_1 : (⟨S512, .f32⟩ : BufTy).Contents (Elt F) → (⟨S1x512, .f32⟩ : BufTy).Contents (Elt F)),
    StableHlo.unary main_v43 main_v44 (broadcastInDim S512x512 ![0, 1] bcast_S1x512_S512x512_0_1 : (⟨S1x512, .f32⟩ : BufTy).Contents (Elt F) → (⟨S512x512, .f32⟩ : BufTy).Contents (Elt F)),
    StableHlo.binary main_v42 main_v44 main_v45 (addf : (⟨S512x512, .f32⟩ : BufTy).Contents (Elt F) → (⟨S512x512, .f32⟩ : BufTy).Contents (Elt F) → (⟨S512x512, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S512x512, .f32⟩) (broadcastInDim S512x512 ![] bcast_S_S512x512),
    StableHlo.TRef.binary (.of main_v45 : StableHlo.TRef sig ⟨S512x512, .f32⟩) (.of main_call1_v0 : StableHlo.TRef sig ⟨S512x512, .f32⟩) (.of main_v46 : StableHlo.TRef sig ⟨S512x512, .f32⟩) maximumf ]

/-- The operations of `hiddenOps` touch only the program's buffers. -/
theorem hiddenOps_sub : (hiddenOps (F := F)).Forall fun op => op.bufs ⊆ tcRefs τ sig :=
  ⟨unary_bufs_sub .., binary_bufs_sub .., unary_bufs_sub .., unary_bufs_sub .., binary_bufs_sub .., nullary_bufs_sub .., unary_bufs_sub .., binary_bufs_sub ..⟩

/-- The second batch normalisation, of the hidden layer. -/
abbrev norm2Ops : List (HloOp τ sig (Elt F)) :=
  [ StableHlo.nullary main_cst_6 (constant S_ .f32 0x00000000#32),
    StableHlo.binary main_v46 main_cst_6 main_v47 ((fun x v => Host.reduceAdd x v reducesTo_S512x512_S512_d0 h_S_) : (⟨S512x512, .f32⟩ : BufTy).Contents (Elt F) → (⟨S_, .f32⟩ : BufTy).Contents (Elt F) → (⟨S512, .f32⟩ : BufTy).Contents (Elt F)),
    StableHlo.nullary main_cst_7 (constant S_ .f32 0x44000000#32),
    StableHlo.unary main_cst_7 main_v48 (broadcastInDim S512 ![] bcast_S_S512 : (⟨S_, .f32⟩ : BufTy).Contents (Elt F) → (⟨S512, .f32⟩ : BufTy).Contents (Elt F)),
    StableHlo.binary main_v47 main_v48 main_v49 (Host.divf : (⟨S512, .f32⟩ : BufTy).Contents (Elt F) → (⟨S512, .f32⟩ : BufTy).Contents (Elt F) → (⟨S512, .f32⟩ : BufTy).Contents (Elt F)),
    StableHlo.nullary main_c_8 (constantI S_ 32 0#32),
    StableHlo.TRef.nullary (.of main_call2_cst : StableHlo.TRef sig ⟨S_, .f32⟩) (constant S_ .f32 0x00000000#32),
    StableHlo.TRef.binary (.of main_v46 : StableHlo.TRef sig ⟨S512x512, .f32⟩) (.of main_call2_cst : StableHlo.TRef sig ⟨S_, .f32⟩) (.of main_call2_v0 : StableHlo.TRef sig ⟨S512, .f32⟩) (fun x v => Host.reduceAdd x v reducesTo_S512x512_S512_d0 h_S_),
    StableHlo.TRef.unary (.of main_call2_v0 : StableHlo.TRef sig ⟨S512, .f32⟩) (.of main_call2_v1 : StableHlo.TRef sig ⟨S1x512, .f32⟩) (broadcastInDim S1x512 ![1] bcast_S512_S1x512_1),
    StableHlo.TRef.nullary (.of main_call2_cst_0 : StableHlo.TRef sig ⟨S_, .f32⟩) (constant S_ .f32 0x44000000#32),
    StableHlo.TRef.unary (.of main_call2_cst_0 : StableHlo.TRef sig ⟨S_, .f32⟩) (.of main_call2_v2 : StableHlo.TRef sig ⟨S1x512, .f32⟩) (broadcastInDim S1x512 ![] bcast_S_S1x512),
    StableHlo.TRef.binary (.of main_call2_v1 : StableHlo.TRef sig ⟨S1x512, .f32⟩) (.of main_call2_v2 : StableHlo.TRef sig ⟨S1x512, .f32⟩) (.of main_call2_v3 : StableHlo.TRef sig ⟨S1x512, .f32⟩) Host.divf,
    StableHlo.TRef.unary (.of main_call2_v3 : StableHlo.TRef sig ⟨S1x512, .f32⟩) (.of main_call2_v4 : StableHlo.TRef sig ⟨S512x512, .f32⟩) (broadcastInDim S512x512 ![0, 1] bcast_S1x512_S512x512_0_1),
    StableHlo.TRef.binary (.of main_v46 : StableHlo.TRef sig ⟨S512x512, .f32⟩) (.of main_call2_v4 : StableHlo.TRef sig ⟨S512x512, .f32⟩) (.of main_call2_v5 : StableHlo.TRef sig ⟨S512x512, .f32⟩) subf,
    StableHlo.TRef.binary (.of main_call2_v5 : StableHlo.TRef sig ⟨S512x512, .f32⟩) (.of main_call2_v5 : StableHlo.TRef sig ⟨S512x512, .f32⟩) (.of main_call2_v6 : StableHlo.TRef sig ⟨S512x512, .f32⟩) mulf,
    StableHlo.TRef.unary (.of main_c_8 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x44000000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S512x512, .f32⟩) (.of main_call2_cst_2 : StableHlo.TRef sig ⟨S_, .f32⟩) (.of main_call2_v9 : StableHlo.TRef sig ⟨S512, .f32⟩) (fun x v => Host.reduceAdd x v reducesTo_S512x512_S512_d0 h_S_),
    StableHlo.TRef.unary (.of main_call2_v8 : StableHlo.TRef sig ⟨S_, .f32⟩) (.of main_call2_v10 : StableHlo.TRef sig ⟨S512, .f32⟩) (broadcastInDim S512 ![] bcast_S_S512),
    StableHlo.TRef.binary (.of main_call2_v9 : StableHlo.TRef sig ⟨S512, .f32⟩) (.of main_call2_v10 : StableHlo.TRef sig ⟨S512, .f32⟩) (.of main_call2_v11 : StableHlo.TRef sig ⟨S512, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S512, .f32⟩) (broadcastInDim S512 ![] bcast_S_S512),
    StableHlo.TRef.ternary (.of main_call2_v12 : StableHlo.TRef sig ⟨S_, .i1⟩) (.of main_call2_v11 : StableHlo.TRef sig ⟨S512, .f32⟩) (.of main_call2_call0_v1 : StableHlo.TRef sig ⟨S512, .f32⟩) (.of main_v50 : StableHlo.TRef sig ⟨S512, .f32⟩) (fun p a b => select (broadcastInDim S512 ![] bcast_S_S512 p) a b),
    StableHlo.unary main_v49 main_v51 (broadcastInDim S1x512 ![1] bcast_S512_S1x512_1 : (⟨S512, .f32⟩ : BufTy).Contents (Elt F) → (⟨S1x512, .f32⟩ : BufTy).Contents (Elt F)),
    StableHlo.unary main_v51 main_v52 (broadcastInDim S512x512 ![0, 1] bcast_S1x512_S512x512_0_1 : (⟨S1x512, .f32⟩ : BufTy).Contents (Elt F) → (⟨S512x512, .f32⟩ : BufTy).Contents (Elt F)),
    StableHlo.binary main_v46 main_v52 main_v53 (subf : (⟨S512x512, .f32⟩ : BufTy).Contents (Elt F) → (⟨S512x512, .f32⟩ : BufTy).Contents (Elt F) → (⟨S512x512, .f32⟩ : BufTy).Contents (Elt F)),
    StableHlo.nullary main_cst_9 (constant S_ .f32 0x3727C5AC#32),
    StableHlo.unary main_cst_9 main_v54 (broadcastInDim S512 ![] bcast_S_S512 : (⟨S_, .f32⟩ : BufTy).Contents (Elt F) → (⟨S512, .f32⟩ : BufTy).Contents (Elt F)),
    StableHlo.binary main_v50 main_v54 main_v55 (addf : (⟨S512, .f32⟩ : BufTy).Contents (Elt F) → (⟨S512, .f32⟩ : BufTy).Contents (Elt F) → (⟨S512, .f32⟩ : BufTy).Contents (Elt F)),
    StableHlo.unary main_v55 main_v56 (Host.sqrt : (⟨S512, .f32⟩ : BufTy).Contents (Elt F) → (⟨S512, .f32⟩ : BufTy).Contents (Elt F)),
    StableHlo.unary main_v56 main_v57 (broadcastInDim S1x512 ![1] bcast_S512_S1x512_1 : (⟨S512, .f32⟩ : BufTy).Contents (Elt F) → (⟨S1x512, .f32⟩ : BufTy).Contents (Elt F)),
    StableHlo.unary main_v57 main_v58 (broadcastInDim S512x512 ![0, 1] bcast_S1x512_S512x512_0_1 : (⟨S1x512, .f32⟩ : BufTy).Contents (Elt F) → (⟨S512x512, .f32⟩ : BufTy).Contents (Elt F)),
    StableHlo.binary main_v53 main_v58 main_v59 (Host.divf : (⟨S512x512, .f32⟩ : BufTy).Contents (Elt F) → (⟨S512x512, .f32⟩ : BufTy).Contents (Elt F) → (⟨S512x512, .f32⟩ : BufTy).Contents (Elt F)),
    StableHlo.unary main_arg6 main_v60 (broadcastInDim S1x512 ![1] bcast_S512_S1x512_1 : (⟨S512, .f32⟩ : BufTy).Contents (Elt F) → (⟨S1x512, .f32⟩ : BufTy).Contents (Elt F)),
    StableHlo.unary main_v60 main_v61 (broadcastInDim S512x512 ![0, 1] bcast_S1x512_S512x512_0_1 : (⟨S1x512, .f32⟩ : BufTy).Contents (Elt F) → (⟨S512x512, .f32⟩ : BufTy).Contents (Elt F)),
    StableHlo.binary main_v59 main_v61 main_v62 (mulf : (⟨S512x512, .f32⟩ : BufTy).Contents (Elt F) → (⟨S512x512, .f32⟩ : BufTy).Contents (Elt F) → (⟨S512x512, .f32⟩ : BufTy).Contents (Elt F)),
    StableHlo.unary main_arg7 main_v63 (broadcastInDim S1x512 ![1] bcast_S512_S1x512_1 : (⟨S512, .f32⟩ : BufTy).Contents (Elt F) → (⟨S1x512, .f32⟩ : BufTy).Contents (Elt F)),
    StableHlo.unary main_v63 main_v64 (broadcastInDim S512x512 ![0, 1] bcast_S1x512_S512x512_0_1 : (⟨S1x512, .f32⟩ : BufTy).Contents (Elt F) → (⟨S512x512, .f32⟩ : BufTy).Contents (Elt F)),
    StableHlo.binary main_v62 main_v64 main_v65 (addf : (⟨S512x512, .f32⟩ : BufTy).Contents (Elt F) → (⟨S512x512, .f32⟩ : BufTy).Contents (Elt F) → (⟨S512x512, .f32⟩ : BufTy).Contents (Elt F)) ]

/-- The operations of `norm2Ops` touch only the program's buffers. -/
theorem norm2Ops_sub : (norm2Ops (F := F)).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

/-- The second linear layer and the added noise. -/
abbrev logitsOps : List (HloOp τ sig (Elt F)) :=
  [ StableHlo.unary main_arg8 main_v66 ((transpose S512x128 [1, 0] · transposes_S128x512_S512x128_1_0) : (⟨S128x512, .f32⟩ : BufTy).Contents (Elt F) → (⟨S512x128, .f32⟩ : BufTy).Contents (Elt F)),
    StableHlo.binary main_v65 main_v66 main_v67 ((fun l r => Host.dotGeneral dot_S512x512_S512x128_S512x128_1_0_0_1_n_n none l r) : (⟨S512x512, .f32⟩ : BufTy).Contents (Elt F) → (⟨S512x128, .f32⟩ : BufTy).Contents (Elt F) → (⟨S512x128, .f32⟩ : BufTy).Contents (Elt F)),
    StableHlo.unary main_arg9 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S512x128 ![0, 1] bcast_S1x128_S512x128_0_1 : (⟨S1x128, .f32⟩ : BufTy).Contents (Elt F) → (⟨S512x128, .f32⟩ : BufTy).Contents (Elt F)),
    StableHlo.binary main_v67 main_v69 main_v70 (addf : (⟨S512x128, .f32⟩ : BufTy).Contents (Elt F) → (⟨S512x128, .f32⟩ : BufTy).Contents (Elt F) → (⟨S512x128, .f32⟩ : BufTy).Contents (Elt F)),
    StableHlo.binary main_v70 main_arg10 main_v71 (addf : (⟨S512x128, .f32⟩ : BufTy).Contents (Elt F) → (⟨S512x128, .f32⟩ : BufTy).Contents (Elt F) → (⟨S512x128, .f32⟩ : BufTy).Contents (Elt F)) ]

/-- The operations of `logitsOps` touch only the program's buffers. -/
theorem logitsOps_sub : (logitsOps (F := F)).Forall fun op => op.bufs ⊆ tcRefs τ sig :=
  ⟨unary_bufs_sub .., binary_bufs_sub .., unary_bufs_sub .., unary_bufs_sub .., binary_bufs_sub .., binary_bufs_sub ..⟩

/-- The softmax along each row. -/
abbrev softOps : List (HloOp τ sig (Elt F)) :=
  [ StableHlo.nullary main_cst_10 (constant S_ .f32 0xFF800000#32),
    StableHlo.binary main_v71 main_cst_10 main_v72 ((fun x v => Host.reduce FloatOps.maximumf x v reducesTo_S512x128_S512_d1 h_S_) : (⟨S512x128, .f32⟩ : BufTy).Contents (Elt F) → (⟨S_, .f32⟩ : BufTy).Contents (Elt F) → (⟨S512, .f32⟩ : BufTy).Contents (Elt F)),
    StableHlo.nullary main_cst_11 (constant S_ .f32 0xFF800000#32),
    StableHlo.unary main_cst_11 main_v73 (broadcastInDim S512 ![] bcast_S_S512 : (⟨S_, .f32⟩ : BufTy).Contents (Elt F) → (⟨S512, .f32⟩ : BufTy).Contents (Elt F)),
    StableHlo.binary main_v73 main_v72 main_v74 (maximumf : (⟨S512, .f32⟩ : BufTy).Contents (Elt F) → (⟨S512, .f32⟩ : BufTy).Contents (Elt F) → (⟨S512, .f32⟩ : BufTy).Contents (Elt F)),
    StableHlo.unary main_v74 main_v75 (broadcastInDim S512x1 ![0] bcast_S512_S512x1_0 : (⟨S512, .f32⟩ : BufTy).Contents (Elt F) → (⟨S512x1, .f32⟩ : BufTy).Contents (Elt F)),
    StableHlo.unary main_v75 main_v76 (broadcastInDim S512x128 ![0, 1] bcast_S512x1_S512x128_0_1 : (⟨S512x1, .f32⟩ : BufTy).Contents (Elt F) → (⟨S512x128, .f32⟩ : BufTy).Contents (Elt F)),
    StableHlo.binary main_v71 main_v76 main_v77 (subf : (⟨S512x128, .f32⟩ : BufTy).Contents (Elt F) → (⟨S512x128, .f32⟩ : BufTy).Contents (Elt F) → (⟨S512x128, .f32⟩ : BufTy).Contents (Elt F)),
    StableHlo.unary main_v77 main_v78 (Host.exp : (⟨S512x128, .f32⟩ : BufTy).Contents (Elt F) → (⟨S512x128, .f32⟩ : BufTy).Contents (Elt F)),
    StableHlo.nullary main_cst_12 (constant S_ .f32 0x00000000#32),
    StableHlo.binary main_v78 main_cst_12 main_v79 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    StableHlo.unary main_v79 main_v80 (broadcastInDim S512x1 ![0] bcast_S512_S512x1_0 : (⟨S512, .f32⟩ : BufTy).Contents (Elt F) → (⟨S512x1, .f32⟩ : BufTy).Contents (Elt F)),
    StableHlo.unary main_v80 main_v81 (broadcastInDim S512x128 ![0, 1] bcast_S512x1_S512x128_0_1 : (⟨S512x1, .f32⟩ : BufTy).Contents (Elt F) → (⟨S512x128, .f32⟩ : BufTy).Contents (Elt F)),
    StableHlo.binary main_v78 main_v81 main_v82 (Host.divf : (⟨S512x128, .f32⟩ : BufTy).Contents (Elt F) → (⟨S512x128, .f32⟩ : BufTy).Contents (Elt F) → (⟨S512x128, .f32⟩ : BufTy).Contents (Elt F)) ]

/-- The operations of `softOps` touch only the program's buffers. -/
theorem softOps_sub : (softOps (F := F)).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- The largest entry of each row, its one-hot row, and the straight-through sum: the third result. -/
abbrev assignOps : List (HloOp τ sig (Elt F)) :=
  [ StableHlo.TRef.nullary (.of main_call3_v0 : StableHlo.TRef sig ⟨S512x128, .i32⟩) (iotaInDim S512x128 32 1),
    StableHlo.TRef.nullary (.of main_call3_cst : StableHlo.TRef sig ⟨S_, .f32⟩) (constant S_ .f32 0xFF800000#32),
    StableHlo.TRef.nullary (.of main_call3_c : StableHlo.TRef sig ⟨S_, .i32⟩) (constantI S_ 32 0#32),
    StableHlo.TRef.quaternary (.of main_v82 : StableHlo.TRef sig ⟨S512x128, .f32⟩) (.of main_call3_v0 : StableHlo.TRef sig ⟨S512x128, .i32⟩) (.of main_call3_cst : StableHlo.TRef sig ⟨S_, .f32⟩) (.of main_call3_c : StableHlo.TRef sig ⟨S_, .i32⟩) (.of main_call3_v1_0 : StableHlo.TRef sig ⟨S512, .f32⟩) (fun x y u v j => (Host.argReduce reducer_argmax_f32_i32 x y u v reducesTo_S512x128_S512_d1 h_S_ j).1),
    StableHlo.TRef.quaternary (.of main_v82 : StableHlo.TRef sig ⟨S512x128, .f32⟩) (.of main_call3_v0 : StableHlo.TRef sig ⟨S512x128, .i32⟩) (.of main_call3_cst : StableHlo.TRef sig ⟨S_, .f32⟩) (.of main_call3_c : StableHlo.TRef sig ⟨S_, .i32⟩) (.of main_v83 : StableHlo.TRef sig ⟨S512, .i32⟩) (fun x y u v j => (Host.argReduce reducer_argmax_f32_i32 x y u v reducesTo_S512x128_S512_d1 h_S_ j).2),
    StableHlo.TRef.unary (.of main_v83 : StableHlo.TRef sig ⟨S512, .i32⟩) (.of main_call4_v0 : StableHlo.TRef sig ⟨S512x1, .i32⟩) (broadcastInDim S512x1 ![0] bcast_S512_S512x1_0),
    StableHlo.TRef.nullary (.of main_call4_v1 : StableHlo.TRef sig ⟨S1x128, .i32⟩) (iotaInDim S1x128 32 1),
    StableHlo.TRef.unary (.of main_call4_v0 : StableHlo.TRef sig ⟨S512x1, .i32⟩) (.of main_call4_v2 : StableHlo.TRef sig ⟨S512x128, .i32⟩) (broadcastInDim S512x128 ![0, 1] bcast_S512x1_S512x128_0_1),
    StableHlo.TRef.unary (.of main_call4_v1 : StableHlo.TRef sig ⟨S1x128, .i32⟩) (.of main_call4_v3 : StableHlo.TRef sig ⟨S512x128, .i32⟩) (broadcastInDim S512x128 ![0, 1] bcast_S1x128_S512x128_0_1),
    StableHlo.TRef.binary (.of main_call4_v2 : StableHlo.TRef sig ⟨S512x128, .i32⟩) (.of main_call4_v3 : StableHlo.TRef sig ⟨S512x128, .i32⟩) (.of main_call4_v4 : StableHlo.TRef sig ⟨S512x128, .i1⟩) (cmpi .eq),
    StableHlo.TRef.unary (.of main_call4_v4 : StableHlo.TRef sig ⟨S512x128, .i1⟩) (.of main_v84 : StableHlo.TRef sig ⟨S512x128, .f32⟩) (uitofp .f32),
    StableHlo.binary main_v84 main_v82 main_v85 (subf : (⟨S512x128, .f32⟩ : BufTy).Contents (Elt F) → (⟨S512x128, .f32⟩ : BufTy).Contents (Elt F) → (⟨S512x128, .f32⟩ : BufTy).Contents (Elt F)),
    StableHlo.binary main_v85 main_v82 main_v86 (addf : (⟨S512x128, .f32⟩ : BufTy).Contents (Elt F) → (⟨S512x128, .f32⟩ : BufTy).Contents (Elt F) → (⟨S512x128, .f32⟩ : BufTy).Contents (Elt F)) ]

/-- The operations of `assignOps` touch only the program's buffers. -/
theorem assignOps_sub : (assignOps (F := F)).Forall fun op => op.bufs ⊆ tcRefs τ sig :=
  ⟨nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., binary_bufs_sub ..⟩

/-- Every operation of the reference. -/
abbrev allOps : List (HloOp τ sig (Elt F)) :=
  corrOps ++ (norm1Ops ++ (hiddenOps ++ (norm2Ops ++ (logitsOps ++ (softOps ++ assignOps)))))

set_option maxHeartbeats 4000000 in
/-- The reference is the run of its operations, one after another. -/
theorem main_eq (c : Dev nD) : main (F := F) c = seq allOps := rfl

/-- The reference has no scoped buffers. -/
theorem scopedRefs_eq : (Finset.univ.filter fun b : Ref sig .tc => b.isScoped) = ∅ := by decide
/-- The reference has no scoped semaphores. -/
theorem scopedSems_eq : (Finset.univ.filter fun sm : SemLoc sig => sm.isScoped .tc) = ∅ := by decide

/-- Two lists of operations on the core's buffers make one such list. -/
theorem sub_append {l₁ l₂ : List (HloOp τ sig (Elt F))} (h₁ : l₁.Forall fun op => op.bufs ⊆ tcRefs τ sig)
    (h₂ : l₂.Forall fun op => op.bufs ⊆ tcRefs τ sig) : (l₁ ++ l₂).Forall fun op => op.bufs ⊆ tcRefs τ sig := by
  rw [List.forall_iff_forall_mem] at *
  intro x hx
  exact (List.mem_append.1 hx).elim (h₁ x) (h₂ x)

/-- The operations of `allOps` touch only the program's buffers. -/
theorem allOps_sub : (allOps (F := F)).Forall fun op => op.bufs ⊆ tcRefs τ sig :=
  sub_append corrOps_sub (sub_append norm1Ops_sub (sub_append hiddenOps_sub (sub_append norm2Ops_sub
    (sub_append logitsOps_sub (sub_append softOps_sub assignOps_sub)))))

/-- Two lists that end one after the other: the second starts from what the first left. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

set_option maxHeartbeats 4000000 in
/-- Every run of the reference leaves each buffer at what its operations leave there. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after allOps (launchContents m d) (Proc.devRef .tc b) :=
  run_seq scopedRefs_eq scopedSems_eq defs main (fun _ => allOps) main_eq (fun _ => allOps_sub) m ρ

end Cert.ReferenceIdeal.Run

end
-- ==== Proof.RefTerms.lean ====
module

public import proofs.«01_k».proof.Proof.RefOps

@[expose] public section

set_option maxRecDepth 16384

noncomputable section

/-! What each group of the reference's operations leaves in the array it ends with, as one host expression of the arrays
    it starts from. -/

namespace Cert.ReferenceIdeal.Run

open Cert.ReferenceIdeal Cert.ReferenceIdeal.Facts₀ Idealize.ShloMosaic Idealize.ShloMosaic.StableHlo
open Idealize.SL.Sem

variable {F : FTy → Type} [FloatOps F]

/-- The scalar zero, the start of each of the reference's sums. -/
def zeroTerm : FVec F S_ .f32 := constant S_ .f32 0x00000000#32
/-- The scalar 512, the number of rows averaged over. -/
def countTerm : FVec F S_ .f32 := constant S_ .f32 0x44000000#32
/-- The scalar added to a variance before its root. -/
def epsTerm : FVec F S_ .f32 := constant S_ .f32 0x3727C5AC#32
/-- The scalar −∞, the start of a maximum. -/
def bottomTerm : FVec F S_ .f32 := constant S_ .f32 0xFF800000#32

/-- `maskᵀ · x`. -/
def covTerm (x : FVec F S50000x256 .f32) (mask : FVec F S50000x512 .f32) : FVec F S512x256 .f32 :=
  Host.dotGeneral dot_S512x50000_S50000x256_S512x256_1_0_0_1_n_n none
    (transpose S512x50000 [1, 0] mask transposes_S50000x512_S512x50000_1_0) x

/-- The columns of the sixteen diagonal entries: `17 j`, wrapped from below. -/
def diagTerm : IVec S16 32 :=
  muli (iotaInDim S16 32 0) (broadcastInDim S16 ![] bcast_S_S16 (constantI S_ 32 17#32))

/-- The same columns as the start indices of the gather. -/
def diagIdxTerm : IVec S16x1 32 :=
  broadcastInDim S16x1 ![0] bcast_S16_S16x1_0
    (select (cmpi .slt diagTerm (broadcastInDim S16 ![] bcast_S_S16 (constantI S_ 32 0#32)))
      (addi diagTerm (broadcastInDim S16 ![] bcast_S_S16 (constantI S_ 32 256#32))) diagTerm)

/-- One over the root of each diagonal entry. -/
def scaleTerm (cov : FVec F S512x256 .f32) : FVec F S512x16 .f32 :=
  Host.rsqrt (Host.gather gather_S512x256_S16x1_S512x16_0_1_n_n_1_1_5121 cov diagIdxTerm)

/-- The scales along the fast axis of a 16 × 16 block. -/
def tiledTerm (s : FVec F S512x16 .f32) : FVec F S512x256 .f32 :=
  shapeCast S512x256 (broadcastInDim S1x512x16x16 ![0, 1, 2, 3] bcast_S1x512x1x16_S1x512x16x16_0_1_2_3
    (shapeCast S1x512x1x16 s shapeCasts_S512x16_S1x512x1x16)) shapeCasts_S1x512x16x16_S512x256

/-- The scales along the slow axis of a 16 × 16 block. -/
def repeatedTerm (s : FVec F S512x16 .f32) : FVec F S512x256 .f32 :=
  shapeCast S512x256 (broadcastInDim S512x16x16 ![0, 1] bcast_S512x16_S512x16x16_0_1 s) shapeCasts_S512x16x16_S512x256

/-- The scaled covariance summed over the slow axis of each block. -/
def corrTerm (cov : FVec F S512x256 .f32) : FVec F S512x16 .f32 :=
  Host.reduceAdd (shapeCast S512x16x16 (mulf (mulf (tiledTerm (scaleTerm cov)) (repeatedTerm (scaleTerm cov))) cov)
    shapeCasts_S512x256_S512x16x16) zeroTerm reducesTo_S512x16x16_S512x16_d1 h_S_

/-- The mean of each of sixteen columns. -/
def mean16Term (x : FVec F S512x16 .f32) : FVec F S16 .f32 :=
  Host.divf (Host.reduceAdd x zeroTerm reducesTo_S512x16_S16_d0 h_S_) (broadcastInDim S16 ![] bcast_S_S16 countTerm)

/-- The number of rows less the correction 0. -/
def dofTerm : FVec F S_ .f32 := subf countTerm (sitofp .f32 (constantI S_ 32 0#32))

/-- Sixteen columns less their means. -/
def center16Term (x : FVec F S512x16 .f32) : FVec F S512x16 .f32 :=
  subf x (broadcastInDim S512x16 ![0, 1] bcast_S1x16_S512x16_0_1
    (Host.divf (broadcastInDim S1x16 ![1] bcast_S16_S1x16_1 (Host.reduceAdd x zeroTerm reducesTo_S512x16_S16_d0 h_S_))
      (broadcastInDim S1x16 ![] bcast_S_S1x16 countTerm)))

/-- The variance of each of sixteen columns. -/
def var16Term (x : FVec F S512x16 .f32) : FVec F S16 .f32 :=
  select (broadcastInDim S16 ![] bcast_S_S16 (cmpf .ogt (dofTerm (F := F)) zeroTerm))
    (Host.divf (Host.reduceAdd (mulf (center16Term x) (center16Term x)) zeroTerm reducesTo_S512x16_S16_d0 h_S_)
      (broadcastInDim S16 ![] bcast_S_S16 dofTerm))
    (broadcastInDim S16 ![] bcast_S_S16 (constant S_ .f32 0x7FC00000#32))

/-- A row vector of sixteen, one copy per row. -/
def rows16Term (v : FVec F S16 .f32) : FVec F S512x16 .f32 :=
  broadcastInDim S512x16 ![0, 1] bcast_S1x16_S512x16_0_1 (broadcastInDim S1x16 ![1] bcast_S16_S1x16_1 v)

/-- Batch normalisation of sixteen columns. -/
def norm16Term (x : FVec F S512x16 .f32) (g b : FVec F S16 .f32) : FVec F S512x16 .f32 :=
  addf (mulf (Host.divf (subf x (rows16Term (mean16Term x)))
    (rows16Term (Host.sqrt (addf (var16Term x) (broadcastInDim S16 ![] bcast_S_S16 epsTerm))))) (rows16Term g)) (rows16Term b)

/-- A row vector of 512, one copy per row. -/
def rows512Term (v : FVec F S512 .f32) : FVec F S512x512 .f32 :=
  broadcastInDim S512x512 ![0, 1] bcast_S1x512_S512x512_0_1 (broadcastInDim S1x512 ![1] bcast_S512_S1x512_1 v)

/-- The first linear layer and its rectifier. -/
def hiddenTerm (x : FVec F S512x16 .f32) (w : FVec F S512x16 .f32) (b : FVec F S512 .f32) : FVec F S512x512 .f32 :=
  maximumf (addf (Host.dotGeneral dot_S512x16_S16x512_S512x512_1_0_0_1_n_n none x
    (transpose S16x512 [1, 0] w transposes_S512x16_S16x512_1_0)) (rows512Term b))
    (broadcastInDim S512x512 ![] bcast_S_S512x512 zeroTerm)

/-- The mean of each of 512 columns. -/
def mean512Term (x : FVec F S512x512 .f32) : FVec F S512 .f32 :=
  Host.divf (Host.reduceAdd x zeroTerm reducesTo_S512x512_S512_d0 h_S_) (broadcastInDim S512 ![] bcast_S_S512 countTerm)

/-- 512 columns less their means. -/
def center512Term (x : FVec F S512x512 .f32) : FVec F S512x512 .f32 :=
  subf x (broadcastInDim S512x512 ![0, 1] bcast_S1x512_S512x512_0_1
    (Host.divf (broadcastInDim S1x512 ![1] bcast_S512_S1x512_1 (Host.reduceAdd x zeroTerm reducesTo_S512x512_S512_d0 h_S_))
      (broadcastInDim S1x512 ![] bcast_S_S1x512 countTerm)))

/-- The variance of each of 512 columns. -/
def var512Term (x : FVec F S512x512 .f32) : FVec F S512 .f32 :=
  select (broadcastInDim S512 ![] bcast_S_S512 (cmpf .ogt (dofTerm (F := F)) zeroTerm))
    (Host.divf (Host.reduceAdd (mulf (center512Term x) (center512Term x)) zeroTerm reducesTo_S512x512_S512_d0 h_S_)
      (broadcastInDim S512 ![] bcast_S_S512 dofTerm))
    (broadcastInDim S512 ![] bcast_S_S512 (constant S_ .f32 0x7FC00000#32))

/-- Batch normalisation of 512 columns. -/
def norm512Term (x : FVec F S512x512 .f32) (g b : FVec F S512 .f32) : FVec F S512x512 .f32 :=
  addf (mulf (Host.divf (subf x (rows512Term (mean512Term x)))
    (rows512Term (Host.sqrt (addf (var512Term x) (broadcastInDim S512 ![] bcast_S_S512 epsTerm))))) (rows512Term g)) (rows512Term b)

/-- The second linear layer and the added noise. -/
def logitsTerm (x : FVec F S512x512 .f32) (w : FVec F S128x512 .f32) (b : FVec F S128 .f32) (noise : FVec F S512x128 .f32) :
    FVec F S512x128 .f32 :=
  addf (addf (Host.dotGeneral dot_S512x512_S512x128_S512x128_1_0_0_1_n_n none x
    (transpose S512x128 [1, 0] w transposes_S128x512_S512x128_1_0))
    (broadcastInDim S512x128 ![0, 1] bcast_S1x128_S512x128_0_1 (broadcastInDim S1x128 ![1] bcast_S128_S1x128_1 b))) noise

/-- A column vector, one copy per column. -/
def colsTerm (v : FVec F S512 .f32) : FVec F S512x128 .f32 :=
  broadcastInDim S512x128 ![0, 1] bcast_S512x1_S512x128_0_1 (broadcastInDim S512x1 ![0] bcast_S512_S512x1_0 v)

/-- The exponentials of a row's entries less the row's largest. -/
def expTerm (z : FVec F S512x128 .f32) : FVec F S512x128 .f32 :=
  Host.exp (subf z (colsTerm (maximumf (broadcastInDim S512 ![] bcast_S_S512 bottomTerm)
    (Host.reduce FloatOps.maximumf z bottomTerm reducesTo_S512x128_S512_d1 h_S_))))

/-- The softmax of each row. -/
def softTerm (z : FVec F S512x128 .f32) : FVec F S512x128 .f32 :=
  Host.divf (expTerm z) (colsTerm (Host.reduceAdd (expTerm z) zeroTerm reducesTo_S512x128_S512_d1 h_S_))

/-- The column of each row's largest entry. -/
def argmaxTerm (y : FVec F S512x128 .f32) : IVec S512 32 := fun j =>
  (Host.argReduce reducer_argmax_f32_i32 y (iotaInDim S512x128 32 1) bottomTerm (constantI S_ 32 0#32)
    reducesTo_S512x128_S512_d1 h_S_ j).2

/-- One in the given column of each row, zero elsewhere. -/
def oneHotTerm (k : IVec S512 32) : FVec F S512x128 .f32 :=
  uitofp .f32 (cmpi .eq
    (broadcastInDim S512x128 ![0, 1] bcast_S512x1_S512x128_0_1 (broadcastInDim S512x1 ![0] bcast_S512_S512x1_0 k))
    (broadcastInDim S512x128 ![0, 1] bcast_S1x128_S512x128_0_1 (iotaInDim S1x128 32 1)))

/-- The straight-through assignment: the one-hot row less the softmax, plus the softmax. -/
def assignTerm (y : FVec F S512x128 .f32) : FVec F S512x128 .f32 :=
  addf (subf (oneHotTerm (argmaxTerm y)) y) y

variable (V : Valuation τ sig (Elt F))

set_option maxHeartbeats 4000000

/-- The first group of operations leaves the pooled covariance. -/
theorem corr_cov : after corrOps V (Proc.devRef .tc main_v1) = covTerm (V (Proc.devRef .tc main_arg0)) (V (Proc.devRef .tc main_arg1)) := by
  after_results_simp; rfl

/-- The first group of operations leaves the correlation readout. -/
theorem corr_corr : after corrOps V (Proc.devRef .tc main_v21)
    = corrTerm (covTerm (V (Proc.devRef .tc main_arg0)) (V (Proc.devRef .tc main_arg1))) := by
  after_results_simp; rfl

/-- The second group leaves the first batch normalisation. -/
theorem norm1_val : after norm1Ops V (Proc.devRef .tc main_v40)
    = norm16Term (V (Proc.devRef .tc main_v21)) (V (Proc.devRef .tc main_arg2)) (V (Proc.devRef .tc main_arg3)) := by
  after_results_simp; rfl

/-- The third group leaves the hidden layer. -/
theorem hidden_val : after hiddenOps V (Proc.devRef .tc main_v46)
    = hiddenTerm (V (Proc.devRef .tc main_v40)) (V (Proc.devRef .tc main_arg4)) (V (Proc.devRef .tc main_arg5)) := by
  after_results_simp; rfl

/-- The fourth group leaves the second batch normalisation. -/
theorem norm2_val : after norm2Ops V (Proc.devRef .tc main_v65)
    = norm512Term (V (Proc.devRef .tc main_v46)) (V (Proc.devRef .tc main_arg6)) (V (Proc.devRef .tc main_arg7)) := by
  after_results_simp; rfl

/-- The fifth group leaves the logits with the noise added. -/
theorem logits_val : after logitsOps V (Proc.devRef .tc main_v71)
    = logitsTerm (V (Proc.devRef .tc main_v65)) (V (Proc.devRef .tc main_arg8)) (V (Proc.devRef .tc main_arg9))
        (V (Proc.devRef .tc main_arg10)) := by
  after_results_simp; rfl

/-- The sixth group leaves the softmax. -/
theorem soft_val : after softOps V (Proc.devRef .tc main_v82) = softTerm (V (Proc.devRef .tc main_v71)) := by
  after_results_simp; rfl

/-- The last group leaves the straight-through assignment. -/
theorem assign_val : after assignOps V (Proc.devRef .tc main_v86) = assignTerm (V (Proc.devRef .tc main_v82)) := by
  after_results_simp
  simp only [TRef.ofBuf_toBuf]
  simp only [TRef.ofBuf, TRef.toBuf, TRef.of, cast_eq]
  rfl

end Cert.ReferenceIdeal.Run

end
-- ==== Proof.RefValue.lean ====
module

public import proofs.«01_k».proof.Proof.RefTerms
public import proofs.«01_k».proof.Proof.Gen.ReferenceIdeal
public import proofs.«01_k».proof.Proof.Argmax
public import Idealize.ShloMosaic.Lib.Pointwise

@[expose] public section

set_option maxRecDepth 16384

noncomputable section

/-! What the reference's arrays hold, element by element, as the problem's mathematics. -/

namespace Cert.ReferenceIdeal.Run

open Cert.ReferenceIdeal Cert.ReferenceIdeal.Facts₀ Idealize.ShloMosaic Cert.Spec Cert.Words Cert.Argmax

/-- The first result is the masked covariance. -/
theorem covTerm_apply (x : FVec Ideal S50000x256 .f32) (mask : FVec Ideal S50000x512 .f32) (i : Fin 512) (j : Fin 256) :
    covTerm x mask (ix2 i j) = cov (fun n a => mask (ix2 n a)) (fun n b => x (ix2 n b)) i j := by
  pointwise [covTerm]
  rfl

/-- The start index of a diagonal entry is its column. -/
theorem diagIdxTerm_apply (j : Fin 16) : diagIdxTerm (ix2 j 0) = BitVec.ofNat 32 (entry j j).val := by
  pointwise [diagIdxTerm, diagTerm]
  exact wrapWord_eq j

/-- The gather of columns reads, in its column `j`, the column that start index `j` names. -/
theorem gather_apply (x : FVec Ideal S512x256 .f32) (idx : IVec S16x1 32) (i : Fin 512) (j : Fin 16) (k : Fin 256)
    (hk : idx (ix2 j 0) = BitVec.ofNat 32 k.val) :
    Host.gather gather_S512x256_S16x1_S512x16_0_1_n_n_1_1_5121 x idx (ix2 i j) = x (ix2 i k) := by
  have hkl := k.isLt
  unfold Host.gather
  refine congrArg x (funext fun a => Fin.ext ?_)
  match a with
  | ⟨0, _⟩ =>
    have h : gather_S512x256_S16x1_S512x16_0_1_n_n_1_1_5121.start (ix2 i j) idx 0 = 0 := by
      unfold GatherDims.start
      rw [dif_neg (by decide)]
    have hb : gather_S512x256_S16x1_S512x16_0_1_n_n_1_1_5121.batchCoord (ix2 i j) 0 = 0 := GatherDims.batchCoord_eq_zero _ _ _ (by decide)
    show gather_S512x256_S16x1_S512x16_0_1_n_n_1_1_5121.start (ix2 i j) idx 0 + gather_S512x256_S16x1_S512x16_0_1_n_n_1_1_5121.batchCoord (ix2 i j) 0 + _ = i.val
    rw [h, hb, zero_add, zero_add]
    rfl
  | ⟨1, _⟩ =>
    have h : gather_S512x256_S16x1_S512x16_0_1_n_n_1_1_5121.start (ix2 i j) idx 1 = k.val := by
      unfold GatherDims.start
      rw [dif_pos (by decide)]
      have hs : ∀ q, gather_S512x256_S16x1_S512x16_0_1_n_n_1_1_5121.siIdx (ix2 i j) q = ix2 j 0 := by
        intro q
        funext b
        match b with
        | ⟨0, _⟩ => rfl
        | ⟨1, _⟩ => exact Subsingleton.elim (α := Fin 1) _ _
      rw [hs, hk, toInt_ofNat (by omega)]
      show min ((k.val : ℤ)).toNat 255 = k.val
      omega
    have hb : gather_S512x256_S16x1_S512x16_0_1_n_n_1_1_5121.batchCoord (ix2 i j) 1 = 0 := GatherDims.batchCoord_eq_zero _ _ _ (by decide)
    have ho : gather_S512x256_S16x1_S512x16_0_1_n_n_1_1_5121.offCoord (ix2 i j) 1 = 0 := GatherDims.offCoord_eq_zero _ _ _ (by decide)
    show gather_S512x256_S16x1_S512x16_0_1_n_n_1_1_5121.start (ix2 i j) idx 1 + gather_S512x256_S16x1_S512x16_0_1_n_n_1_1_5121.batchCoord (ix2 i j) 1 + gather_S512x256_S16x1_S512x16_0_1_n_n_1_1_5121.offCoord (ix2 i j) 1 = k.val
    rw [h, hb, ho]
    rfl

/-- One over the root of each diagonal entry. -/
theorem scaleTerm_apply (v : FVec Ideal S512x256 .f32) (i : Fin 512) (j : Fin 16) :
    scaleTerm v (ix2 i j) = scale (fun a b => v (ix2 a b)) i j := by
  show Ideal.rsqrt (Host.gather _ v diagIdxTerm (ix2 i j)) = _
  rw [gather_apply v _ i j _ (diagIdxTerm_apply j)]
  rfl

/-- The tiled scales. -/
theorem tiledTerm_apply (s : FVec Ideal S512x16 .f32) (i : Fin 512) (a b : Fin 16) : tiledTerm s (ix2 i (entry a b)) = s (ix2 i b) := by
  have h : ∀ j : Fin 256, tiledTerm s (ix2 i j) = s (ix2 i ⟨j.val % 16, by omega⟩) := by
    intro j
    pointwise [tiledTerm]
  rw [h]
  congr 2
  refine Fin.ext ?_
  show (a.val * 16 + b.val) % 16 = b.val
  omega

/-- The repeated scales. -/
theorem repeatedTerm_apply (s : FVec Ideal S512x16 .f32) (i : Fin 512) (a b : Fin 16) :
    repeatedTerm s (ix2 i (entry a b)) = s (ix2 i a) := by
  have h : ∀ j : Fin 256, repeatedTerm s (ix2 i j) = s (ix2 i ⟨j.val / 16, by omega⟩) := by
    intro j
    pointwise [repeatedTerm]
  rw [h]
  congr 2
  refine Fin.ext ?_
  show (a.val * 16 + b.val) / 16 = a.val
  omega

/-- The second result is the correlation's row sums. -/
theorem corrTerm_apply (v : FVec Ideal S512x256 .f32) (i : Fin 512) (j : Fin 16) :
    corrTerm v (ix2 i j) = corr (fun a b => v (ix2 a b)) i j := by
  pointwise [corrTerm, zeroTerm]
  refine Finset.sum_congr rfl fun a _ => ?_
  show tiledTerm _ (ix2 i (entry a j)) * repeatedTerm _ (ix2 i (entry a j)) * v (ix2 i (entry a j)) = _
  rw [tiledTerm_apply, repeatedTerm_apply, scaleTerm_apply, scaleTerm_apply]

/-- Batch normalisation of sixteen columns. -/
theorem norm16Term_apply (x : FVec Ideal S512x16 .f32) (g b : FVec Ideal S16 .f32) (i : Fin 512) (j : Fin 16) :
    norm16Term x g b (ix2 i j) = norm (fun r c => x (ix2 r c)) (fun c => g (ix1 c)) (fun c => b (ix1 c)) i j := by
  pointwise [norm16Term, rows16Term, mean16Term, var16Term, center16Term, dofTerm, zeroTerm, countTerm, epsTerm]
  rw [ofBits_count, ofBits_eps, count_sub, if_pos count_pos]
  rfl

/-- Batch normalisation of 512 columns. -/
theorem norm512Term_apply (x : FVec Ideal S512x512 .f32) (g b : FVec Ideal S512 .f32) (i j : Fin 512) :
    norm512Term x g b (ix2 i j) = norm (fun r c => x (ix2 r c)) (fun c => g (ix1 c)) (fun c => b (ix1 c)) i j := by
  pointwise [norm512Term, rows512Term, mean512Term, var512Term, center512Term, dofTerm, zeroTerm, countTerm, epsTerm]
  rw [ofBits_count, ofBits_eps, count_sub, if_pos count_pos]
  rfl

/-- The first linear layer, cut off at zero. -/
theorem hiddenTerm_apply (x w : FVec Ideal S512x16 .f32) (b : FVec Ideal S512 .f32) (i j : Fin 512) :
    hiddenTerm x w b (ix2 i j) = hidden (fun r c => x (ix2 r c)) (fun r c => w (ix2 r c)) (fun c => b (ix1 c)) i j := by
  pointwise [hiddenTerm, rows512Term, zeroTerm]
  rfl

/-- The second linear layer and the noise. -/
theorem logitsTerm_apply (x : FVec Ideal S512x512 .f32) (w : FVec Ideal S128x512 .f32) (b : FVec Ideal S128 .f32)
    (noise : FVec Ideal S512x128 .f32) (i : Fin 512) (j : Fin 128) :
    logitsTerm x w b noise (ix2 i j)
      = linear (fun r c => x (ix2 r c)) (fun r c => w (ix2 r c)) (fun c => b (ix1 c)) i j + noise (ix2 i j) := by
  pointwise [logitsTerm]
  rfl

/-- The softmax of each row. -/
theorem softTerm_apply (z : FVec Ideal S512x128 .f32) (i : Fin 512) (j : Fin 128) :
    softTerm z (ix2 i j) = soft (fun k => z (ix2 i k)) j := by
  pointwise [softTerm, expTerm, colsTerm, zeroTerm, bottomTerm]
  rw [ofBits_bot]
  simp only [bot_le, max_eq_right]
  rfl

/-- The pass's step keeps the better of two candidates. -/
theorem reducer_keeps : Keeps (reducer_argmax_f32_i32 (F := Ideal)) := by
  rintro ⟨x, p⟩ ⟨y, q⟩
  rcases lt_trichotomy x y with h | h | h
  · have e : reducer_argmax_f32_i32 (F := Ideal) (x, p) (y, q) = (y, q) := by
      simp [reducer_argmax_f32_i32, Ideal.cmpf_def, Ideal.cmp, not_lt.2 h.le, h.ne, IntOp.ori, IntOp.andi, Scalar.select]
    rw [e]
    exact ⟨Or.inr rfl, Or.inl h, Beats.refl _⟩
  · subst h
    by_cases hp : p.toInt < q.toInt
    · have e : reducer_argmax_f32_i32 (F := Ideal) (x, p) (x, q) = (x, p) := by
        simp [reducer_argmax_f32_i32, Ideal.cmpf_def, Ideal.cmp, IntOp.ori, IntOp.andi, Scalar.select, IntOp.cmpi, BitVec.slt, hp]
      rw [e]
      exact ⟨Or.inl rfl, Beats.refl _, Or.inr ⟨rfl, hp.le⟩⟩
    · have e : reducer_argmax_f32_i32 (F := Ideal) (x, p) (x, q) = (x, q) := by
        simp [reducer_argmax_f32_i32, Ideal.cmpf_def, Ideal.cmp, IntOp.ori, IntOp.andi, Scalar.select, IntOp.cmpi, BitVec.slt, hp]
      rw [e]
      exact ⟨Or.inr rfl, Or.inr ⟨rfl, not_lt.1 hp⟩, Beats.refl _⟩
  · have e : reducer_argmax_f32_i32 (F := Ideal) (x, p) (y, q) = (x, p) := by
      simp [reducer_argmax_f32_i32, Ideal.cmpf_def, Ideal.cmp, h, h.ne', IntOp.ori, IntOp.andi, Scalar.select]
    rw [e]
    exact ⟨Or.inl rfl, Beats.refl _, Or.inl h⟩

/-- The pairs the pass meets in a row are its entries with their columns. -/
theorem mem_fiber (z : FVec Ideal S512x128 .f32) (i : Fin 512) (q : EReal × BitVec 32) :
    q ∈ Host.argReduceFiber z (iotaInDim S512x128 32 1) reducesTo_S512x128_S512_d1 (ix1 i)
      ↔ ∃ c : Fin 128, q = (z (ix2 i c), BitVec.ofNat 32 c.val) := by
  unfold Host.argReduceFiber
  rw [List.mem_map]
  constructor
  · rintro ⟨n, hn, rfl⟩
    have hd := of_decide_eq_true (List.mem_filter.1 hn).2
    generalize S512x128.rowMajor.symm n = p at hd
    refine ⟨p 1, ?_⟩
    have e : p = ix2 i (p 1) := by
      funext a
      match a with
      | ⟨0, _⟩ => exact congrFun hd 0
      | ⟨1, _⟩ => rfl
    conv_lhs => rw [e]
    rfl
  · rintro ⟨c, rfl⟩
    refine ⟨S512x128.rowMajor (ix2 i c), List.mem_filter.2 ⟨List.mem_finRange _, decide_eq_true ?_⟩, ?_⟩
    · rw [Equiv.symm_apply_apply]
      funext a
      match a with
      | ⟨0, _⟩ => rfl
    · rw [Equiv.symm_apply_apply]
      rfl

/-- The column the reference finds is the first that holds the row's largest entry. -/
theorem argmaxTerm_apply (z : FVec Ideal S512x128 .f32) (i : Fin 512) :
    argmaxTerm z (ix1 i) = BitVec.ofNat 32 (firstMax fun k => z (ix2 i k)).val := by
  unfold argmaxTerm
  rw [Ideal.argReduce_eq_reduce2, Host.reduce2_eq_foldl_fiber]
  have e : (bottomTerm (F := Ideal)) (Shape.Idx.first h_S_) = ⊥ := ofBits_bot
  rw [e]
  exact foldl_firstMax reducer_keeps _ _ (mem_fiber z i)

/-- The assignment of each row. -/
theorem assignTerm_apply (z : FVec Ideal S512x128 .f32) (i : Fin 512) (j : Fin 128) :
    assignTerm z (ix2 i j) = assign (fun k => z (ix2 i k)) j := by
  pointwise [assignTerm, oneHotTerm]
  rw [uitofp_eq, argmaxTerm_apply]
  unfold assign
  congr 2
  refine if_congr ⟨fun h => Fin.ext (ofNat_inj (by omega) (by omega) h.symm), fun h => by rw [h]⟩ rfl rfl

/-- The third result, from the second. -/
theorem head_apply (x : FVec Ideal S512x16 .f32) (g1 b1 : FVec Ideal S16 .f32) (w1 : FVec Ideal S512x16 .f32) (c1 g2 b2 : FVec Ideal S512 .f32)
    (w2 : FVec Ideal S128x512 .f32) (c2 : FVec Ideal S128 .f32) (noise : FVec Ideal S512x128 .f32) (i : Fin 512) (j : Fin 128) :
    assignTerm (softTerm (logitsTerm (norm512Term (hiddenTerm (norm16Term x g1 b1) w1 c1) g2 b2) w2 c2 noise)) (ix2 i j)
      = head (fun r c => x (ix2 r c)) (fun c => g1 (ix1 c)) (fun c => b1 (ix1 c)) (fun r c => w1 (ix2 r c)) (fun c => c1 (ix1 c))
          (fun c => g2 (ix1 c)) (fun c => b2 (ix1 c)) (fun r c => w2 (ix2 r c)) (fun c => c2 (ix1 c)) (fun r c => noise (ix2 r c)) i j := by
  rw [assignTerm_apply]
  simp only [softTerm_apply, logitsTerm_apply, norm512Term_apply, hiddenTerm_apply, norm16Term_apply]
  rfl

end Cert.ReferenceIdeal.Run
end
-- ==== Proof.Equal.lean ====
module

public import proofs.«01_k».proof.Proof.KernelResult
public import proofs.«01_k».proof.Proof.RefValue

@[expose] public section

set_option maxRecDepth 16384

noncomputable section

/-! The reference's three results, as host expressions of the kernel's arguments, are the arrays the kernel ends with. -/

namespace Cert.Proof.Equal

open Idealize.ShloMosaic Cert.Spec Cert.ReferenceIdeal.Run
open Cert.KernelIdeal.Value (accLast corrBlock assignLast accLast_apply corrLast_apply assignLast_apply)

variable (m : (ℓ : Loc Cert.KernelIdeal.nD Cert.KernelIdeal.τ Cert.KernelIdeal.sig) → Buf (Elt Ideal) ℓ) (c : Dev Cert.KernelIdeal.nD)

/-- The data the kernel is given. -/
def arg0 : FVec Ideal Cert.ReferenceIdeal.S50000x256 .f32 := m ((c.tc : Thread Cert.KernelIdeal.nD Cert.KernelIdeal.τ).loc Cert.KernelIdeal.main_arg0)
/-- The mask the kernel is given. -/
def arg1 : FVec Ideal Cert.ReferenceIdeal.S50000x512 .f32 := m ((c.tc : Thread Cert.KernelIdeal.nD Cert.KernelIdeal.τ).loc Cert.KernelIdeal.main_arg1)
/-- The first gain the kernel is given. -/
def arg2 : FVec Ideal Cert.ReferenceIdeal.S16 .f32 := m ((c.tc : Thread Cert.KernelIdeal.nD Cert.KernelIdeal.τ).loc Cert.KernelIdeal.main_arg2)
/-- The first offset the kernel is given. -/
def arg3 : FVec Ideal Cert.ReferenceIdeal.S16 .f32 := m ((c.tc : Thread Cert.KernelIdeal.nD Cert.KernelIdeal.τ).loc Cert.KernelIdeal.main_arg3)
/-- The first weights the kernel is given. -/
def arg4 : FVec Ideal Cert.ReferenceIdeal.S512x16 .f32 := m ((c.tc : Thread Cert.KernelIdeal.nD Cert.KernelIdeal.τ).loc Cert.KernelIdeal.main_arg4)
/-- The first bias the kernel is given. -/
def arg5 : FVec Ideal Cert.ReferenceIdeal.S512 .f32 := m ((c.tc : Thread Cert.KernelIdeal.nD Cert.KernelIdeal.τ).loc Cert.KernelIdeal.main_arg5)
/-- The second gain the kernel is given. -/
def arg6 : FVec Ideal Cert.ReferenceIdeal.S512 .f32 := m ((c.tc : Thread Cert.KernelIdeal.nD Cert.KernelIdeal.τ).loc Cert.KernelIdeal.main_arg6)
/-- The second offset the kernel is given. -/
def arg7 : FVec Ideal Cert.ReferenceIdeal.S512 .f32 := m ((c.tc : Thread Cert.KernelIdeal.nD Cert.KernelIdeal.τ).loc Cert.KernelIdeal.main_arg7)
/-- The second weights the kernel is given. -/
def arg8 : FVec Ideal Cert.ReferenceIdeal.S128x512 .f32 := m ((c.tc : Thread Cert.KernelIdeal.nD Cert.KernelIdeal.τ).loc Cert.KernelIdeal.main_arg8)
/-- The second bias the kernel is given. -/
def arg9 : FVec Ideal Cert.ReferenceIdeal.S128 .f32 := m ((c.tc : Thread Cert.KernelIdeal.nD Cert.KernelIdeal.τ).loc Cert.KernelIdeal.main_arg9)
/-- The noise the kernel is given. -/
def arg10 : FVec Ideal Cert.ReferenceIdeal.S512x128 .f32 := m ((c.tc : Thread Cert.KernelIdeal.nD Cert.KernelIdeal.τ).loc Cert.KernelIdeal.main_arg10)

/-- The covariances agree. -/
theorem cov_eq : covTerm (arg0 m c) (arg1 m c) = accLast m c := by
  funext f
  rw [eq_ix2 f]
  exact (covTerm_apply _ _ _ _).trans (accLast_apply m c _ _).symm

/-- The correlations agree. -/
theorem corr_eq : corrTerm (covTerm (arg0 m c) (arg1 m c)) = corrBlock (accLast m c) := by
  funext f
  rw [eq_ix2 f]
  refine (corrTerm_apply _ _ _).trans (Eq.trans ?_ (corrLast_apply m c _ _).symm)
  exact congrArg (fun x => corr x _ _) (funext fun a => funext fun b => covTerm_apply _ _ a b)

/-- The assignments agree. -/
theorem assign_eq : assignTerm (softTerm (logitsTerm (norm512Term (hiddenTerm (norm16Term
        (corrTerm (covTerm (arg0 m c) (arg1 m c))) (arg2 m c) (arg3 m c)) (arg4 m c) (arg5 m c)) (arg6 m c) (arg7 m c))
        (arg8 m c) (arg9 m c) (arg10 m c)))
      = assignLast m c := by
  funext f
  rw [eq_ix2 f]
  refine (head_apply _ _ _ _ _ _ _ _ _ _ _ _).trans (Eq.trans ?_ (assignLast_apply m c _ _).symm)
  refine congrArg (fun x => head x _ _ _ _ _ _ _ _ _ _ _) (funext fun r => funext fun k => ?_)
  refine (corrTerm_apply _ _ _).trans ?_
  exact congrArg (fun x => corr x _ _) (funext fun a => funext fun b => covTerm_apply _ _ a b)

/-- From arguments equal to the kernel's, the reference's three results are the kernel's. -/
theorem results_eq {x0 : FVec Ideal Cert.ReferenceIdeal.S50000x256 .f32} {x1 : FVec Ideal Cert.ReferenceIdeal.S50000x512 .f32} {x2 : FVec Ideal Cert.ReferenceIdeal.S16 .f32} {x3 : FVec Ideal Cert.ReferenceIdeal.S16 .f32} {x4 : FVec Ideal Cert.ReferenceIdeal.S512x16 .f32}
    {x5 : FVec Ideal Cert.ReferenceIdeal.S512 .f32} {x6 : FVec Ideal Cert.ReferenceIdeal.S512 .f32} {x7 : FVec Ideal Cert.ReferenceIdeal.S512 .f32} {x8 : FVec Ideal Cert.ReferenceIdeal.S128x512 .f32} {x9 : FVec Ideal Cert.ReferenceIdeal.S128 .f32} {x10 : FVec Ideal Cert.ReferenceIdeal.S512x128 .f32} (h : x0 = arg0 m c ∧ x1 = arg1 m c ∧ x2 = arg2 m c ∧ x3 = arg3 m c ∧ x4 = arg4 m c ∧ x5 = arg5 m c ∧ x6 = arg6 m c ∧ x7 = arg7 m c ∧ x8 = arg8 m c ∧ x9 = arg9 m c ∧ x10 = arg10 m c) :
    covTerm x0 x1 = accLast m c ∧ corrTerm (covTerm x0 x1) = corrBlock (accLast m c)
    ∧ assignTerm (softTerm (logitsTerm (norm512Term (hiddenTerm (norm16Term (corrTerm (covTerm x0 x1)) x2 x3) x4 x5) x6 x7) x8 x9 x10))
      = assignLast m c := by
  obtain ⟨rfl, rfl, rfl, rfl, rfl, rfl, rfl, rfl, rfl, rfl, rfl⟩ := h
  exact ⟨cov_eq m c, corr_eq m c, assign_eq m c⟩

end Cert.Proof.Equal
end
-- ==== Proof.RefRun.lean ====
module

public import proofs.«01_k».proof.Proof.RefTerms

@[expose] public section

set_option maxRecDepth 16384

noncomputable section

/-! The reference's run: its three results as host expressions of its arguments, its arguments unchanged. -/

namespace Cert.ReferenceIdeal.Run

open Cert.ReferenceIdeal Idealize.ShloMosaic Idealize.ShloMosaic.StableHlo
open Idealize.SL.Sem

variable {F : FTy → Type} [FloatOps F] (V : Valuation τ sig (Elt F))

set_option maxHeartbeats 4000000

/-- The first result is the covariance. -/
theorem all_cov : after allOps V (Proc.devRef .tc main_v1)
    = covTerm (V (Proc.devRef .tc main_arg0)) (V (Proc.devRef .tc main_arg1)) := by
  simp only [allOps, after_append]
  rw [← corr_cov]
  after_results_simp

/-- The second result is the correlations. -/
theorem all_corr : after allOps V (Proc.devRef .tc main_v21)
    = corrTerm (covTerm (V (Proc.devRef .tc main_arg0)) (V (Proc.devRef .tc main_arg1))) := by
  simp only [allOps, after_append]
  rw [← corr_corr]
  after_results_simp

/-- The third result is the assignment. -/
theorem all_assign : after allOps V (Proc.devRef .tc main_v86)
    = assignTerm (softTerm (logitsTerm (norm512Term (hiddenTerm (norm16Term
        (corrTerm (covTerm (V (Proc.devRef .tc main_arg0)) (V (Proc.devRef .tc main_arg1))))
        (V (Proc.devRef .tc main_arg2)) (V (Proc.devRef .tc main_arg3)))
        (V (Proc.devRef .tc main_arg4)) (V (Proc.devRef .tc main_arg5)))
        (V (Proc.devRef .tc main_arg6)) (V (Proc.devRef .tc main_arg7)))
        (V (Proc.devRef .tc main_arg8)) (V (Proc.devRef .tc main_arg9)) (V (Proc.devRef .tc main_arg10)))) := by
  simp only [allOps, after_append]
  rw [assign_val, soft_val, logits_val, norm2_val, hidden_val, norm1_val, corr_corr]
  after_results_simp

/-- No operation of the reference writes an argument. -/
theorem all_args :
    after allOps V (Proc.devRef .tc main_arg0) = V (Proc.devRef .tc main_arg0)
    ∧ after allOps V (Proc.devRef .tc main_arg1) = V (Proc.devRef .tc main_arg1)
    ∧ after allOps V (Proc.devRef .tc main_arg2) = V (Proc.devRef .tc main_arg2)
    ∧ after allOps V (Proc.devRef .tc main_arg3) = V (Proc.devRef .tc main_arg3)
    ∧ after allOps V (Proc.devRef .tc main_arg4) = V (Proc.devRef .tc main_arg4)
    ∧ after allOps V (Proc.devRef .tc main_arg5) = V (Proc.devRef .tc main_arg5)
    ∧ after allOps V (Proc.devRef .tc main_arg6) = V (Proc.devRef .tc main_arg6)
    ∧ after allOps V (Proc.devRef .tc main_arg7) = V (Proc.devRef .tc main_arg7)
    ∧ after allOps V (Proc.devRef .tc main_arg8) = V (Proc.devRef .tc main_arg8)
    ∧ after allOps V (Proc.devRef .tc main_arg9) = V (Proc.devRef .tc main_arg9)
    ∧ after allOps V (Proc.devRef .tc main_arg10) = V (Proc.devRef .tc main_arg10) := by
  simp only [allOps, after_append]
  refine ⟨?_, ?_, ?_, ?_, ?_, ?_, ?_, ?_, ?_, ?_, ?_⟩ <;> after_results_simp

end Cert.ReferenceIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Equal
public import proofs.«01_k».proof.Proof.RefRun
public import Idealize.ShloMosaic.Adequacy
public import Idealize.ShloMosaic.Init

@[expose] public section

noncomputable section

namespace Cert.Proof

open Idealize.ShloMosaic Idealize.SL.Sem

/-- The reference returns its arguments unchanged and every counter at zero. -/
theorem frame_reference : Cert.quiescent_ReferenceIdeal := fun m ρ _ =>
  (θ_run Cert.ReferenceIdeal.defs _ _).mono (fun r h => ⟨fun c => by
      simp only [h]
      exact Cert.ReferenceIdeal.Run.all_args _,
    Idealize.ShloMosaic.sem_eq_zero_of_no_sems (by decide) r.2⟩)
    (Cert.ReferenceIdeal.Run.run (F := Ideal) m ρ)

/-- Given equal arguments the kernel and the reference end with equal covariances, correlations and assignments. -/
theorem algebraic : Cert.algebraic_KernelIdeal_ReferenceIdeal := by
  intro m ρ m' ρ' _ hagree
  refine ⟨_, _, _, Cert.KernelIdeal.Value.run_blocks (F := Ideal) m ρ, ?_⟩
  refine (θ_run Cert.ReferenceIdeal.defs _ _).mono (fun r h c => ?_) (Cert.ReferenceIdeal.Run.run (F := Ideal) m' ρ')
  obtain ⟨e0, e1, e2⟩ := Equal.results_eq m c (hagree c)
  rw [Cert.KernelIdeal.Value.final_cov, Cert.KernelIdeal.Value.final_corr, Cert.KernelIdeal.Value.final_assign]
  simp only [h]
  exact ⟨(Cert.ReferenceIdeal.Run.all_cov _).trans e0, (Cert.ReferenceIdeal.Run.all_corr _).trans e1,
    (Cert.ReferenceIdeal.Run.all_assign _).trans e2, Cert.ReferenceIdeal.Run.all_args _⟩

/-- Every claim of the comparison. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
